-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v11_0)) (v3 : (c : Dev Cert.KernelIdeal.nD) → Buf (Elt Ideal) ((c.tc : Thread Cert.KernelIdeal.nD Cert.KernelIdeal.τ).loc Cert.KernelIdeal.main_v11_1)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v11_0) = v2 c
          ∧ r.2.mem ((c.tc : Thread Cert.KernelIdeal.nD Cert.KernelIdeal.τ).loc Cert.KernelIdeal.main_v11_1) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x300x1024 : Shape := ⟨3, ![64, 300, 1024]⟩
abbrev S4x128x1024 : Shape := ⟨3, ![4, 128, 1024]⟩
abbrev S4x128 : Shape := ⟨2, ![4, 128]⟩
abbrev S128x1024 : Shape := ⟨2, ![128, 1024]⟩
abbrev S128 : Shape := ⟨1, ![128]⟩
abbrev S3862x128 : Shape := ⟨2, ![3862, 128]⟩
abbrev S3862 : Shape := ⟨1, ![3862]⟩
abbrev S512x1024 : Shape := ⟨2, ![512, 1024]⟩
abbrev S768x1024 : Shape := ⟨2, ![768, 1024]⟩
abbrev S1024x768 : Shape := ⟨2, ![1024, 768]⟩
abbrev S512 : Shape := ⟨1, ![512]⟩
abbrev S768 : Shape := ⟨1, ![768]⟩
abbrev S1x768 : Shape := ⟨2, ![1, 768]⟩
abbrev S128x3862 : Shape := ⟨2, ![128, 3862]⟩
abbrev S1x3862 : Shape := ⟨2, ![1, 3862]⟩
abbrev S64x300x4 : Shape := ⟨3, ![64, 300, 4]⟩
abbrev S64x1x128 : Shape := ⟨3, ![64, 1, 128]⟩
abbrev S16x300x1024 : Shape := ⟨3, ![16, 300, 1024]⟩
abbrev S16x300x4 : Shape := ⟨3, ![16, 300, 4]⟩
abbrev S16x1x128 : Shape := ⟨3, ![16, 1, 128]⟩
abbrev S1x300x1024 : Shape := ⟨3, ![1, 300, 1024]⟩
abbrev S300x1024 : Shape := ⟨2, ![300, 1024]⟩
abbrev S300x768 : Shape := ⟨2, ![300, 768]⟩
abbrev S300x128 : Shape := ⟨2, ![300, 128]⟩
abbrev S1x4 : Shape := ⟨2, ![1, 4]⟩
abbrev S300 : Shape := ⟨1, ![300]⟩
abbrev S300x1 : Shape := ⟨2, ![300, 1]⟩
abbrev S300x4 : Shape := ⟨2, ![300, 4]⟩
abbrev S1x300x4 : Shape := ⟨3, ![1, 300, 4]⟩
abbrev S4 : Shape := ⟨1, ![4]⟩
abbrev S1x128 : Shape := ⟨2, ![1, 128]⟩
abbrev S1x1x128 : Shape := ⟨3, ![1, 1, 128]⟩
abbrev S64x3862 : Shape := ⟨2, ![64, 3862]⟩
abbrev S1x1x1 : Shape := ⟨3, ![1, 1, 1]⟩
abbrev S64x128 : Shape := ⟨2, ![64, 128]⟩
abbrev S64 : Shape := ⟨1, ![64]⟩
abbrev S64x1 : Shape := ⟨2, ![64, 1]⟩
abbrev S1 : Shape := ⟨1, ![1]⟩
abbrev S1x1 : Shape := ⟨2, ![1, 1]⟩
abbrev S_ : Shape := ⟨0, ![]⟩

abbrev nBuf : Space → Nat
  | .hbm => 32
  | .vmem => 27
  | .smem => 0
  | _ => 0

abbrev bufTy : (tb : Table) → Fin (tcTables nBuf tb) → BufTy
  | .hbm, ⟨0, _⟩ => ⟨S64x300x1024, .f32⟩
  | .hbm, ⟨1, _⟩ => ⟨S4x128x1024, .f32⟩
  | .hbm, ⟨2, _⟩ => ⟨S4x128, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S3862x128, .f32⟩
  | .hbm, ⟨8, _⟩ => ⟨S3862, .f32⟩
  | .hbm, ⟨9, _⟩ => ⟨S3862, .f32⟩
  | .hbm, ⟨10, _⟩ => ⟨S3862, .f32⟩
  | .hbm, ⟨11, _⟩ => ⟨S512x1024, .f32⟩
  | .hbm, ⟨12, _⟩ => ⟨S768x1024, .f32⟩
  | .hbm, ⟨13, _⟩ => ⟨S1024x768, .f32⟩
  | .hbm, ⟨14, _⟩ => ⟨S1024x768, .bf16⟩
  | .hbm, ⟨15, _⟩ => ⟨S512, .f32⟩
  | .hbm, ⟨16, _⟩ => ⟨S768, .f32⟩
  | .hbm, ⟨17, _⟩ => ⟨S1x768, .f32⟩
  | .hbm, ⟨18, _⟩ => ⟨S128x3862, .f32⟩
  | .hbm, ⟨19, _⟩ => ⟨S1x3862, .f32⟩
  | .hbm, ⟨20, _⟩ => ⟨S1x3862, .f32⟩
  | .hbm, ⟨21, _⟩ => ⟨S1x3862, .f32⟩
  | .hbm, ⟨22, _⟩ => ⟨S64x300x4, .f32⟩
  | .hbm, ⟨23, _⟩ => ⟨S64x300x4, .f32⟩
  | .hbm, ⟨24, _⟩ => ⟨S64x1x128, .f32⟩
  | .hbm, ⟨25, _⟩ => ⟨S64x1x128, .f32⟩
  | .hbm, ⟨26, _⟩ => ⟨S64x1x128, .f32⟩
  | .hbm, ⟨27, _⟩ => ⟨S64x1x128, .f32⟩
  | .hbm, ⟨28, _⟩ => ⟨S64x3862, .f32⟩
  | .hbm, ⟨29, _⟩ => ⟨S64x3862, .i32⟩
  | .hbm, ⟨30, _⟩ => ⟨S1x1x1, .f32⟩
  | .hbm, ⟨31, _⟩ => ⟨S_, .f32⟩
  | .local _ .vmem, ⟨0, _⟩ => ⟨S16x300x1024, .f32⟩
  | .local _ .vmem, ⟨1, _⟩ => ⟨S16x300x1024, .f32⟩
  | .local _ .vmem, ⟨2, _⟩ => ⟨S1024x768, .bf16⟩
  | .local _ .vmem, ⟨3, _⟩ => ⟨S1x768, .f32⟩
  | .local _ .vmem, ⟨4, _⟩ => ⟨S16x300x4, .f32⟩
  | .local _ .vmem, ⟨5, _⟩ => ⟨S16x300x4, .f32⟩
  | .local _ .vmem, ⟨6, _⟩ => ⟨S16x300x4, .f32⟩
  | .local _ .vmem, ⟨7, _⟩ => ⟨S16x300x4, .f32⟩
  | .local _ .vmem, ⟨8, _⟩ => ⟨S16x1x128, .f32⟩
  | .local _ .vmem, ⟨9, _⟩ => ⟨S16x1x128, .f32⟩
  | .local _ .vmem, ⟨10, _⟩ => ⟨S16x1x128, .f32⟩
  | .local _ .vmem, ⟨11, _⟩ => ⟨S16x1x128, .f32⟩
  | .local _ .vmem, ⟨12, _⟩ => ⟨S16x1x128, .f32⟩
  | .local _ .vmem, ⟨13, _⟩ => ⟨S16x1x128, .f32⟩
  | .local _ .vmem, ⟨14, _⟩ => ⟨S16x1x128, .f32⟩
  | .local _ .vmem, ⟨15, _⟩ => ⟨S16x1x128, .f32⟩
  | .local _ .vmem, ⟨16, _⟩ => ⟨S64x1x128, .f32⟩
  | .local _ .vmem, ⟨17, _⟩ => ⟨S64x1x128, .f32⟩
  | .local _ .vmem, ⟨18, _⟩ => ⟨S64x1x128, .f32⟩
  | .local _ .vmem, ⟨19, _⟩ => ⟨S64x1x128, .f32⟩
  | .local _ .vmem, ⟨20, _⟩ => ⟨S128x3862, .f32⟩
  | .local _ .vmem, ⟨21, _⟩ => ⟨S1x3862, .f32⟩
  | .local _ .vmem, ⟨22, _⟩ => ⟨S1x3862, .f32⟩
  | .local _ .vmem, ⟨23, _⟩ => ⟨S1x3862, .f32⟩
  | .local _ .vmem, ⟨24, _⟩ => ⟨S64x3862, .f32⟩
  | .local _ .vmem, ⟨25, _⟩ => ⟨S64x3862, .i32⟩
  | .local _ .vmem, ⟨26, _⟩ => ⟨S1x1x1, .f32⟩
  | _, _ => ⟨S64x300x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v13 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x300x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x300x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x300x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

abbrev stage1_0 : Fin 1 → Memref sig .tc .vmem S64x1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x3862 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x3862 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x3862 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x3862 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S64x3862 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S64x3862 .i32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== ReferenceIdeal.lean ====
abbrev S64x300x1024 : Shape := ⟨3, ![64, 300, 1024]⟩
abbrev S4x128x1024 : Shape := ⟨3, ![4, 128, 1024]⟩
abbrev S4x128 : Shape := ⟨2, ![4, 128]⟩
abbrev S128x1024 : Shape := ⟨2, ![128, 1024]⟩
abbrev S128 : Shape := ⟨1, ![128]⟩
abbrev S3862x128 : Shape := ⟨2, ![3862, 128]⟩
abbrev S3862 : Shape := ⟨1, ![3862]⟩
abbrev S64x300x128 : Shape := ⟨3, ![64, 300, 128]⟩
abbrev S1x1x128 : Shape := ⟨3, ![1, 1, 128]⟩
abbrev S4x128x64x300 : Shape := ⟨4, ![4, 128, 64, 300]⟩
abbrev S64x4x300x128 : Shape := ⟨4, ![64, 4, 300, 128]⟩
abbrev S1x4x1x128 : Shape := ⟨4, ![1, 4, 1, 128]⟩
abbrev S64x300x4 : Shape := ⟨3, ![64, 300, 4]⟩
abbrev S64x4x300 : Shape := ⟨3, ![64, 4, 300]⟩
abbrev S_ : Shape := ⟨0, ![]⟩
abbrev S64x4 : Shape := ⟨2, ![64, 4]⟩
abbrev S64x4x1 : Shape := ⟨3, ![64, 4, 1]⟩
abbrev S64x4x128 : Shape := ⟨3, ![64, 4, 128]⟩
abbrev S64x4x3862 : Shape := ⟨3, ![64, 4, 3862]⟩
abbrev S1x1x3862 : Shape := ⟨3, ![1, 1, 3862]⟩
abbrev S64x3862x4 : Shape := ⟨3, ![64, 3862, 4]⟩
abbrev S64x3862 : Shape := ⟨2, ![64, 3862]⟩
abbrev S1x3862 : Shape := ⟨2, ![1, 3862]⟩
abbrev S64 : Shape := ⟨1, ![64]⟩
abbrev S64x1 : Shape := ⟨2, ![64, 1]⟩

abbrev nBuf : Space → Nat
  | .hbm => 143
  | .vmem => 0
  | .smem => 0
  | _ => 0

abbrev hbmTy0_0 (i : Nat) : BufTy := match i % 128 with
  | 0 => ⟨S64x300x1024, .f32⟩
  | 1 => ⟨S4x128x1024, .f32⟩
  | 2 => ⟨S4x128, .f32⟩
  | 3 => ⟨S128x1024, .f32⟩
  | 4 => ⟨S128, .f32⟩
  | 5 => ⟨S128x1024, .f32⟩
  | 6 => ⟨S128, .f32⟩
  | 7 => ⟨S3862x128, .f32⟩
  | 8 => ⟨S3862, .f32⟩
  | 9 => ⟨S3862, .f32⟩
  | 10 => ⟨S3862, .f32⟩
  | 11 => ⟨S64x300x128, .f32⟩
  | 12 => ⟨S1x1x128, .f32⟩
  | 13 => ⟨S64x300x128, .f32⟩
  | 14 => ⟨S64x300x128, .f32⟩
  | 15 => ⟨S64x300x128, .f32⟩
  | 16 => ⟨S1x1x128, .f32⟩
  | 17 => ⟨S64x300x128, .f32⟩
  | 18 => ⟨S64x300x128, .f32⟩
  | 19 => ⟨S4x128x64x300, .f32⟩
  | 20 => ⟨S64x4x300x128, .f32⟩
  | 21 => ⟨S1x4x1x128, .f32⟩
  | 22 => ⟨S64x4x300x128, .f32⟩
  | 23 => ⟨S64x4x300x128, .f32⟩
  | 24 => ⟨S64x300x4, .f32⟩
  | 25 => ⟨S64x4x300, .f32⟩
  | 26 => ⟨S_, .f32⟩
  | 27 => ⟨S64x4x300, .f32⟩
  | 28 => ⟨S64x4x300, .f32⟩
  | 29 => ⟨S_, .f32⟩
  | 30 => ⟨S64x4, .f32⟩
  | 31 => ⟨S_, .f32⟩
  | 32 => ⟨S64x4, .f32⟩
  | 33 => ⟨S64x4, .f32⟩
  | 34 => ⟨S64x4x1, .f32⟩
  | 35 => ⟨S64x4x300, .f32⟩
  | 36 => ⟨S64x4x300, .f32⟩
  | 37 => ⟨S64x4x300, .f32⟩
  | 38 => ⟨S_, .f32⟩
  | 39 => ⟨S64x4, .f32⟩
  | 40 => ⟨S64x4x1, .f32⟩
  | 41 => ⟨S64x4x300, .f32⟩
  | 42 => ⟨S64x4x300, .f32⟩
  | 43 => ⟨S64x4x128, .f32⟩
  | 44 => ⟨S_, .f32⟩
  | 45 => ⟨S64x4x128, .f32⟩
  | 46 => ⟨S64x4x128, .f32⟩
  | 47 => ⟨S64x4x3862, .f32⟩
  | 48 => ⟨S1x1x3862, .f32⟩
  | 49 => ⟨S64x4x3862, .f32⟩
  | 50 => ⟨S64x4x3862, .f32⟩
  | 51 => ⟨S_, .f32⟩
  | 52 => ⟨S64x4, .f32⟩
  | 53 => ⟨S64x4x1, .f32⟩
  | 54 => ⟨S_, .f32⟩
  | 55 => ⟨S64x4x1, .f32⟩
  | 56 => ⟨S64x4x1, .f32⟩
  | 57 => ⟨S64x4x3862, .f32⟩
  | 58 => ⟨S64x4x3862, .f32⟩
  | 59 => ⟨S64x4x3862, .f32⟩
  | 60 => ⟨S_, .f32⟩
  | 61 => ⟨S64x4, .f32⟩
  | 62 => ⟨S64x4x1, .f32⟩
  | 63 => ⟨S_, .f32⟩
  | 64 => ⟨S64x4x1, .f32⟩
  | 65 => ⟨S64x4x1, .f32⟩
  | 66 => ⟨S64x4x1, .f32⟩
  | 67 => ⟨S64x4x3862, .f32⟩
  | 68 => ⟨S64x4x3862, .f32⟩
  | 69 => ⟨S1x1x3862, .f32⟩
  | 70 => ⟨S64x4x3862, .f32⟩
  | 71 => ⟨S64x4x3862, .f32⟩
  | 72 => ⟨S_, .f32⟩
  | 73 => ⟨S64x4x1, .f32⟩
  | 74 => ⟨S64x4x1, .f32⟩
  | 75 => ⟨S64x4x3862, .f32⟩
  | 76 => ⟨S64x4x3862, .f32⟩
  | 77 => ⟨S1x1x3862, .f32⟩
  | 78 => ⟨S64x4x3862, .f32⟩
  | 79 => ⟨S64x4x3862, .f32⟩
  | 80 => ⟨S64x3862x4, .f32⟩
  | 81 => ⟨S_, .f32⟩
  | 82 => ⟨S64x3862, .f32⟩
  | 83 => ⟨S64x3862x4, .i32⟩
  | 84 => ⟨S_, .f32⟩
  | 85 => ⟨S_, .i32⟩
  | 86 => ⟨S64x3862, .f32⟩
  | 87 => ⟨S64x3862, .i32⟩
  | 88 => ⟨S64x3862, .f32⟩
  | 89 => ⟨S64x3862, .f32⟩
  | 90 => ⟨S_, .f32⟩
  | 91 => ⟨S64x3862, .f32⟩
  | 92 => ⟨S64x3862, .f32⟩
  | 93 => ⟨S_, .f32⟩
  | 94 => ⟨S64x3862, .f32⟩
  | 95 => ⟨S64x3862, .f32⟩
  | 96 => ⟨S64x300x4, .f32⟩
  | 97 => ⟨S64x300x4, .f32⟩
  | 98 => ⟨S_, .f32⟩
  | 99 => ⟨S3862, .f32⟩
  | 100 => ⟨S1x3862, .f32⟩
  | 101 => ⟨S1x3862, .f32⟩
  | 102 => ⟨S1x3862, .f32⟩
  | 103 => ⟨S64x3862, .f32⟩
  | 104 => ⟨S_, .f32⟩
  | 105 => ⟨S64, .f32⟩
  | 106 => ⟨S_, .f32⟩
  | 107 => ⟨S64, .f32⟩
  | 108 => ⟨S64, .f32⟩
  | 109 => ⟨S64x1, .f32⟩
  | 110 => ⟨S64x3862, .f32⟩
  | 111 => ⟨S64x3862, .f32⟩
  | 112 => ⟨S64x3862, .f32⟩
  | 113 => ⟨S_, .f32⟩
  | 114 => ⟨S64, .f32⟩
  | 115 => ⟨S64x1, .f32⟩
  | 116 => ⟨S64x3862, .f32⟩
  | 117 => ⟨S64x3862, .f32⟩
  | 118 => ⟨S_, .f32⟩
  | 119 => ⟨S64, .f32⟩
  | 120 => ⟨S64x1, .f32⟩
  | 121 => ⟨S_, .f32⟩
  | 122 => ⟨S64x1, .f32⟩
  | 123 => ⟨S64x1, .f32⟩
  | 124 => ⟨S64x3862, .f32⟩
  | 125 => ⟨S64x3862, .f32⟩
  | 126 => ⟨S64x3862, .f32⟩
  | 127 => ⟨S_, .f32⟩
  | _ => ⟨S64x300x1024, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64, .f32⟩
  | 5 => ⟨S_, .f32⟩
  | 6 => ⟨S_, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S_, .f32⟩
  | _ => ⟨S64x300x1024, .f32⟩

abbrev hbmTy (i : Nat) : BufTy := match i / 128 with
  | 0 => hbmTy0_0 i
  | 1 => hbmTy0_1 i
  | _ => ⟨S64x300x1024, .f32⟩

abbrev bufTy : (tb : Table) → Fin (tcTables nBuf tb) → BufTy
  | .hbm, ⟨i, _⟩ => hbmTy i
  | _, _ => ⟨S64x300x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_call0_v0 : Ref sig .tc := ⟨.hbm, 83, rfl⟩
abbrev main_call0_cst : Ref sig .tc := ⟨.hbm, 84, rfl⟩
abbrev main_call0_c : Ref sig .tc := ⟨.hbm, 85, rfl⟩
abbrev main_call0_v1_0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_16 : Ref sig .tc := ⟨.hbm, 118, rfl⟩
abbrev main_v86 : Ref sig .tc := ⟨.hbm, 119, rfl⟩
abbrev main_v87 : Ref sig .tc := ⟨.hbm, 120, rfl⟩
abbrev main_cst_17 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_18 : Ref sig .tc := ⟨.hbm, 127, rfl⟩
abbrev main_v93 : Ref sig .tc := ⟨.hbm, 128, rfl⟩
abbrev main_cst_19 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_20 : Ref sig .tc := ⟨.hbm, 133, rfl⟩
abbrev main_cst_21 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_v97 : Ref sig .tc := ⟨.hbm, 140, rfl⟩
abbrev main_cst_22 : Ref sig .tc := ⟨.hbm, 141, rfl⟩
abbrev main_v98 : Ref sig .tc := ⟨.hbm, 142, rfl⟩

abbrev nD : Nat := 1
abbrev τ : Topo := Topo.v7x

variable {F : FTy → Type} [FloatOps F]
-- ==== Proof.Run.lean ====
/-
The run of the two-region kernel program with the final contents of its five results: the generated frame's last
boundary `W4`, read at the results as well as at the arguments.
-/
module

public import proofs.«01_k».proof.Proof.Gen.KernelIdeal.Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each result at the contents of the last boundary and each argument as launched. -/
theorem run : θ_run defs (onTc (τ := τ) (main (F := F))) ⟨m, fun _ => 0, ρ⟩ (fun r => ∀ c : Dev nD,
      r.2.mem ((c.tc : Thread nD τ).loc main_v12_0) = W4 m ρ c (Proc.devRef .tc main_v12_0)
      ∧ r.2.mem ((c.tc : Thread nD τ).loc main_v12_1) = W4 m ρ c (Proc.devRef .tc main_v12_1)
      ∧ r.2.mem ((c.tc : Thread nD τ).loc main_v11_0) = W4 m ρ c (Proc.devRef .tc main_v11_0)
      ∧ r.2.mem ((c.tc : Thread nD τ).loc main_v11_1) = W4 m ρ c (Proc.devRef .tc main_v11_1)
      ∧ r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => ⟨h c _ (mem_uc main_v12_0 (by decide)), h c _ (mem_uc main_v12_1 (by decide)), h c _ (mem_uc main_v11_0 (by decide)), h c _ (mem_uc main_v11_1 (by decide)), h c _ (mem_uc main_v13 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c)⟩)

end Cert.KernelIdeal.Whole

end
-- ==== Proof.RefTerms.lean ====
/-
The reference's mathematics cut into stages: for each stage the array operations it applies, as one function of the
arrays it starts from.
-/
module

public import proofs.«01_k».proof.Defs
public import proofs.«01_k».proof.Proof.Gen.ReferenceIdeal

@[expose] public section

set_option maxRecDepth 16384

noncomputable section

namespace Cert.RefTerms

open Idealize.ShloMosaic Cert.ReferenceIdeal Cert.ReferenceIdeal.Facts₀

/-- Keys or values: every row of the features against a weight matrix, plus the bias. -/
def lin (x : FVec Ideal S64x300x1024 .f32) (w : FVec Ideal S128x1024 .f32) (b : FVec Ideal S128 .f32) :
    FVec Ideal S64x300x128 .f32 :=
  addf (Host.dotGeneral dot_S64x300x1024_S128x1024_S64x300x128_2_1_01_0_n_n none x w)
    (broadcastInDim S64x300x128 ![0, 1, 2] bcast_S1x1x128_S64x300x128_0_1_2
      (broadcastInDim S1x1x128 ![2] bcast_S128_S1x1x128_2 b))

/-- The queries of all heads. -/
def query (x : FVec Ideal S64x300x1024 .f32) (w : FVec Ideal S4x128x1024 .f32) (b : FVec Ideal S4x128 .f32) :
    FVec Ideal S64x4x300x128 .f32 :=
  addf (transpose S64x4x300x128 [2, 0, 3, 1]
      (Host.dotGeneral dot_S4x128x1024_S64x300x1024_S4x128x64x300_2_2_01_01_n_n none w x)
      transposes_S4x128x64x300_S64x4x300x128_2_0_3_1)
    (broadcastInDim S64x4x300x128 ![0, 1, 2, 3] bcast_S1x4x1x128_S64x4x300x128_0_1_2_3
      (broadcastInDim S1x4x1x128 ![1, 3] bcast_S4x128_S1x4x1x128_1_3 b))

/-- The scaled scores of keys against queries. -/
def score (k : FVec Ideal S64x300x128 .f32) (q : FVec Ideal S64x4x300x128 .f32) : FVec Ideal S64x4x300 .f32 :=
  mulf (transpose S64x4x300 [0, 2, 1]
      (Host.dotGeneral dot_S64x300x128_S64x4x300x128_S64x300x4_2_3_n_1_01_02 none k q)
      transposes_S64x300x4_S64x4x300_0_2_1)
    (broadcastInDim S64x4x300 ![] bcast_S_S64x4x300 (constant S_ .f32 0x3DB504F3#32))

/-- The largest score of each head over the sequence, spread back over it. -/
def top (s : FVec Ideal S64x4x300 .f32) : FVec Ideal S64x4x300 .f32 :=
  broadcastInDim S64x4x300 ![0, 1, 2] bcast_S64x4x1_S64x4x300_0_1_2
    (broadcastInDim S64x4x1 ![0, 1] bcast_S64x4_S64x4x1_0_1
      (maximumf (broadcastInDim S64x4 ![] bcast_S_S64x4 (constant S_ .f32 0xFF800000#32))
        (Host.reduce FloatOps.maximumf s (constant S_ .f32 0xFF800000#32) reducesTo_S64x4x300_S64x4_d2 h_S_)))

/-- Shifted exponentials over the sequence divided by their sum. -/
def softmax (s : FVec Ideal S64x4x300 .f32) : FVec Ideal S64x4x300 .f32 :=
  Host.divf (Host.exp (subf s (top s)))
    (broadcastInDim S64x4x300 ![0, 1, 2] bcast_S64x4x1_S64x4x300_0_1_2
      (broadcastInDim S64x4x1 ![0, 1] bcast_S64x4_S64x4x1_0_1
        (Host.reduceAdd (Host.exp (subf s (top s))) (constant S_ .f32 0x00000000#32) reducesTo_S64x4x300_S64x4_d2 h_S_)))

/-- The weighted sums of the values, cut off below zero. -/
def attend (p : FVec Ideal S64x4x300 .f32) (v : FVec Ideal S64x300x128 .f32) : FVec Ideal S64x4x128 .f32 :=
  maximumf (Host.dotGeneral dot_S64x4x300_S64x300x128_S64x4x128_2_1_1_2_0_0 none p v)
    (broadcastInDim S64x4x128 ![] bcast_S_S64x4x128 (constant S_ .f32 0x00000000#32))

/-- The class logits of each head. -/
def logits (w : FVec Ideal S64x4x128 .f32) (wc : FVec Ideal S3862x128 .f32) (bc : FVec Ideal S3862 .f32) :
    FVec Ideal S64x4x3862 .f32 :=
  addf (Host.dotGeneral dot_S64x4x128_S3862x128_S64x4x3862_2_1_01_0_n_n none w wc)
    (broadcastInDim S64x4x3862 ![0, 1, 2] bcast_S1x1x3862_S64x4x3862_0_1_2
      (broadcastInDim S1x1x3862 ![2] bcast_S3862_S1x1x3862_2 bc))

/-- The mean of the logits over the classes. -/
def mean (l : FVec Ideal S64x4x3862 .f32) : FVec Ideal S64x4x1 .f32 :=
  Host.divf (broadcastInDim S64x4x1 ![0, 1] bcast_S64x4_S64x4x1_0_1
      (Host.reduceAdd l (constant S_ .f32 0x00000000#32) reducesTo_S64x4x3862_S64x4_d2 h_S_))
    (broadcastInDim S64x4x1 ![] bcast_S_S64x4x1 (constant S_ .f32 0x45716000#32))

/-- The logits less their mean. -/
def centred (l : FVec Ideal S64x4x3862 .f32) : FVec Ideal S64x4x3862 .f32 :=
  subf l (broadcastInDim S64x4x3862 ![0, 1, 2] bcast_S64x4x1_S64x4x3862_0_1_2 (mean l))

/-- The spread of centred logits: the root of their squares' sum over one less than the number of classes. -/
def spread (d : FVec Ideal S64x4x3862 .f32) : FVec Ideal S64x4x1 .f32 :=
  Host.sqrt (Host.divf (broadcastInDim S64x4x1 ![0, 1] bcast_S64x4_S64x4x1_0_1
      (Host.reduceAdd (mulf d d) (constant S_ .f32 0x00000000#32) reducesTo_S64x4x3862_S64x4_d2 h_S_))
    (broadcastInDim S64x4x1 ![] bcast_S_S64x4x1 (constant S_ .f32 0x45715000#32)))

/-- Normalised logits from centred ones, classes before heads. -/
def normed (d : FVec Ideal S64x4x3862 .f32) (a b : FVec Ideal S3862 .f32) : FVec Ideal S64x3862x4 .f32 :=
  transpose S64x3862x4 [0, 2, 1]
    (addf (Host.divf
        (mulf (broadcastInDim S64x4x3862 ![0, 1, 2] bcast_S1x1x3862_S64x4x3862_0_1_2
          (broadcastInDim S1x1x3862 ![2] bcast_S3862_S1x1x3862_2 a)) d)
        (broadcastInDim S64x4x3862 ![0, 1, 2] bcast_S64x4x1_S64x4x3862_0_1_2
          (addf (spread d) (broadcastInDim S64x4x1 ![] bcast_S_S64x4x1 (constant S_ .f32 0x358637BD#32)))))
      (broadcastInDim S64x4x3862 ![0, 1, 2] bcast_S1x1x3862_S64x4x3862_0_1_2
        (broadcastInDim S1x1x3862 ![2] bcast_S3862_S1x1x3862_2 b)))
    transposes_S64x4x3862_S64x3862x4_0_2_1

/-- The largest over the heads. -/
def best (n : FVec Ideal S64x3862x4 .f32) : FVec Ideal S64x3862 .f32 :=
  Host.reduce FloatOps.maximumf n (constant S_ .f32 0xFF800000#32) reducesTo_S64x3862x4_S64x3862_d2 h_S_

/-- The first head at which the largest is attained. -/
def bestAt (n : FVec Ideal S64x3862x4 .f32) : IVec S64x3862 32 := fun j =>
  (Host.argReduce reducer_argmax_f32_i32 n (iotaInDim S64x3862x4 32 2) (constant S_ .f32 0xFF800000#32)
    (constantI S_ 32 0#32) reducesTo_S64x3862x4_S64x3862_d2 h_S_ j).2

/-- One over one plus the exponential of the negative. -/
def sigmoid (x : FVec Ideal S64x3862 .f32) : FVec Ideal S64x3862 .f32 :=
  Host.divf (broadcastInDim S64x3862 ![] bcast_S_S64x3862 (constant S_ .f32 0x3F800000#32))
    (addf (broadcastInDim S64x3862 ![] bcast_S_S64x3862 (constant S_ .f32 0x3F800000#32)) (Host.exp (Host.negf x)))

/-- Scores or weights with the heads last. -/
def headsLast (s : FVec Ideal S64x4x300 .f32) : FVec Ideal S64x300x4 .f32 :=
  transpose S64x300x4 [0, 2, 1] s transposes_S64x4x300_S64x300x4_0_2_1

/-- The classifier's weights summed over their inputs, plus its bias, repeated over the batch. -/
def conv (wc : FVec Ideal S3862x128 .f32) (bc : FVec Ideal S3862 .f32) : FVec Ideal S64x3862 .f32 :=
  broadcastInDim S64x3862 ![0, 1] bcast_S1x3862_S64x3862_0_1
    (addf (broadcastInDim S1x3862 ![1] bcast_S3862_S1x3862_1
        (Host.reduceAdd wc (constant S_ .f32 0x00000000#32) reducesTo_S3862x128_S3862_d1 h_S_))
      (broadcastInDim S1x3862 ![1] bcast_S3862_S1x3862_1 bc))

/-- The largest of each row, spread back over it. -/
def convTop (s : FVec Ideal S64x3862 .f32) : FVec Ideal S64x3862 .f32 :=
  broadcastInDim S64x3862 ![0, 1] bcast_S64x1_S64x3862_0_1
    (broadcastInDim S64x1 ![0] bcast_S64_S64x1_0
      (maximumf (broadcastInDim S64 ![] bcast_S_S64 (constant S_ .f32 0xFF800000#32))
        (Host.reduce FloatOps.maximumf s (constant S_ .f32 0xFF800000#32) reducesTo_S64x3862_S64_d1 h_S_)))

/-- Shifted exponentials over the classes divided by their sum. -/
def convSoftmax (s : FVec Ideal S64x3862 .f32) : FVec Ideal S64x3862 .f32 :=
  Host.divf (Host.exp (subf s (convTop s)))
    (broadcastInDim S64x3862 ![0, 1] bcast_S64x1_S64x3862_0_1
      (broadcastInDim S64x1 ![0] bcast_S64_S64x1_0
        (Host.reduceAdd (Host.exp (subf s (convTop s))) (constant S_ .f32 0x00000000#32) reducesTo_S64x3862_S64_d1 h_S_)))

/-- Each row less its mean. -/
def convCentred (s : FVec Ideal S64x3862 .f32) : FVec Ideal S64x3862 .f32 :=
  subf s (broadcastInDim S64x3862 ![0, 1] bcast_S64x1_S64x3862_0_1
    (Host.divf (broadcastInDim S64x1 ![0] bcast_S64_S64x1_0
        (Host.reduceAdd s (constant S_ .f32 0x00000000#32) reducesTo_S64x3862_S64_d1 h_S_))
      (broadcastInDim S64x1 ![] bcast_S_S64x1 (constant S_ .f32 0x45716000#32))))

/-- The spread of each centred row. -/
def convSpread (d : FVec Ideal S64x3862 .f32) : FVec Ideal S64 .f32 :=
  Host.sqrt (Host.divf (Host.reduceAdd (mulf d d) (constant S_ .f32 0x00000000#32) reducesTo_S64x3862_S64_d1 h_S_)
    (broadcastInDim S64 ![] bcast_S_S64 (constant S_ .f32 0x45715000#32)))

/-- The spreads kept between two bounds and summed over the batch. -/
def convLoss (s : FVec Ideal S64 .f32) : FVec Ideal S_ .f32 :=
  Host.reduceAdd (minimumf (broadcastInDim S64 ![] bcast_S_S64 (id (constant S_ .f32 0x4E6E6B28#32)))
      (maximumf (broadcastInDim S64 ![] bcast_S_S64 (id (constant S_ .f32 0x3089705F#32))) s))
    (constant S_ .f32 0x00000000#32) reducesTo_S64_S_d0 h_S_

end Cert.RefTerms

end
-- ==== Proof.RefRun.lean ====
/-
The reference program's run: it reads as a straight line of host operations, whose five results are the stages of
`RefTerms` composed.
-/
module

public import proofs.«01_k».proof.Proof.RefTerms
public import Idealize.ShloMosaic.Lib.Claim
public import Idealize.ShloMosaic.Lib.Quiescent

@[expose] public section

set_option maxRecDepth 16384

noncomputable section

namespace Cert.RefRun

open Idealize.ShloMosaic Idealize.SL.Sem Cert.ReferenceIdeal Cert.RefTerms

/-- The operations of the reference, in order, with the proof that its program is their straight line. -/
def line : { ops : List (HloOp τ sig (Elt Ideal)) // ∀ d, StableHlo.IsSeq (main (F := Ideal) d) ops } := by
  apply Subtype.mk
  hlo_seq

/-- Every execution of the reference ends with each buffer at the operations' results, and every counter at zero. -/
theorem runs (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = StableHlo.after line.1 (StableHlo.launchContents m d) (Proc.devRef .tc b) :=
  StableHlo.run_hlo _ _ line.2 (by decide) (by decide) (by unfold line; simp)
      (by unfold line; intro _ h; (repeat (cases h with | head => rfl | tail _ h => ?_)); exact nomatch h) _ _

/-- The contents of every buffer after the reference's line, from launch contents `V`. -/
abbrev out (V : Valuation τ sig (Elt Ideal)) : Valuation τ sig (Elt Ideal) := StableHlo.after line.1 V

variable (V : Valuation τ sig (Elt Ideal))

set_option maxHeartbeats 4000000 in
/-- The scores, heads last. -/
theorem out_scores : out V (Proc.devRef .tc main_v68)
    = headsLast (score (lin (V (Proc.devRef .tc main_arg0)) (V (Proc.devRef .tc main_arg3)) (V (Proc.devRef .tc main_arg4)))
        (query (V (Proc.devRef .tc main_arg0)) (V (Proc.devRef .tc main_arg1)) (V (Proc.devRef .tc main_arg2)))) := by
  unfold out line
  after_results
  rfl

/-- The attention weights of the reference, heads before the sequence. -/
def weights : FVec Ideal S64x4x300 .f32 :=
  softmax (score (lin (V (Proc.devRef .tc main_arg0)) (V (Proc.devRef .tc main_arg3)) (V (Proc.devRef .tc main_arg4)))
    (query (V (Proc.devRef .tc main_arg0)) (V (Proc.devRef .tc main_arg1)) (V (Proc.devRef .tc main_arg2))))

set_option maxHeartbeats 4000000 in
/-- The attention weights, heads last. -/
theorem out_weights : out V (Proc.devRef .tc main_v69) = headsLast (weights V) := by
  unfold out line
  after_results
  rfl

/-- The normalised logits of the reference, classes before heads. -/
def norms : FVec Ideal S64x3862x4 .f32 :=
  normed (centred (logits
      (attend (weights V) (lin (V (Proc.devRef .tc main_arg0)) (V (Proc.devRef .tc main_arg5)) (V (Proc.devRef .tc main_arg6))))
      (V (Proc.devRef .tc main_arg7)) (V (Proc.devRef .tc main_arg8))))
    (V (Proc.devRef .tc main_arg9)) (V (Proc.devRef .tc main_arg10))

set_option maxHeartbeats 8000000 in
/-- The class probabilities. -/
theorem out_probs : out V (Proc.devRef .tc main_v67) = sigmoid (best (norms V)) := by
  unfold out line
  after_results
  rfl

set_option maxHeartbeats 8000000 in
/-- The heads at which the largest logits are. -/
theorem out_heads : out V (Proc.devRef .tc main_v61) = bestAt (norms V) := by
  unfold out line
  after_results
  rfl

set_option maxHeartbeats 8000000 in
/-- The classifier's regularising loss. -/
theorem out_loss : out V (Proc.devRef .tc main_v98)
    = convLoss (convSpread (convCentred (convSoftmax (conv (V (Proc.devRef .tc main_arg7)) (V (Proc.devRef .tc main_arg8)))))) := by
  unfold out line
  after_results
  rfl

/-- An argument is written by no operation of the line. -/
theorem out_args : ∀ b ∈ [main_arg0, main_arg1, main_arg2, main_arg3, main_arg4, main_arg5, main_arg6, main_arg7, main_arg8,
    main_arg9, main_arg10], out V (Proc.devRef .tc b) = V (Proc.devRef .tc b) := by
  simp only [List.forall_mem_cons]
  and_intros
  all_goals first
    | exact fun _ h => nomatch h
    | (unfold out line; after_results)

/-- Every execution of the reference ends with its arguments as launched and every counter at zero. -/
theorem quiet : Cert.quiescent_ReferenceIdeal (hReferenceIdeal := Cert.ReferenceIdeal.Gen.facts) := fun m ρ _ =>
  θ_run_mono (runs m ρ) fun r h => ⟨fun c => by
    and_intros
    all_goals exact (h c _).trans (out_args _ _ (by simp)), sem_eq_zero_of_no_sems (by decide) _⟩

end Cert.RefRun

end
-- ==== Proof.Slot.lean ====
/-
What the first kernel computes of one batch slot: the projections of the slot's rows, the scores of the four heads,
their softmax over the sequence, and the pooled values.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Slot

open Idealize.ShloMosaic Cert.KernelIdeal Cert.KernelIdeal.Gen

/-- One row of features against one column of the joined weights, plus that column's bias. -/
def proj (X : Fin 1024 → EReal) (w : Fin 1024 → EReal) (b : EReal) : EReal := ∑ d, X d * w d + b

/-- The scaled product of a query and a key. -/
def score (q k : Fin 128 → EReal) : EReal := (∑ p, q p * k p) * Ideal.ofBits FTy.f32 0x3DB504F3#32

/-- The largest of a family of numbers. -/
def top {n : ℕ} (a : Fin n → EReal) : EReal :=
  Finset.fold max (Ideal.ofBits .f32 0xFF800000#32) a Finset.univ

/-- One term of a softmax. -/
def weight {n : ℕ} (a : Fin n → EReal) (s : Fin n) : EReal :=
  Ideal.div (Ideal.exp (a s - top a)) (∑ t, Ideal.exp (a t - top a))

/-- The column of the joined weights that holds entry `p` of head `h`'s query. -/
def colQ (h : Fin 4) (p : Fin 128) : Fin 768 := ⟨h * 128 + p, by omega⟩
/-- The column of the joined weights that holds entry `p` of the key. -/
def colK (p : Fin 128) : Fin 768 := ⟨512 + p, by omega⟩
/-- The column of the joined weights that holds entry `p` of the value. -/
def colV (p : Fin 128) : Fin 768 := ⟨640 + p, by omega⟩

/-- The scores of one slot as the kernel's operations give them, from the slot's projections. -/
def scoreT (v : FVec Ideal S300x768 .f32) : FVec Ideal S300x4 .f32 :=
  k0_pay27 v (k0_pay25 v) (iota .tc S1x4 32 [1] iota_S1x4_d1_w32) (k0_pay26 v)

/-- The kernel's projections of a slot are the projections of its rows. -/
theorem proj_at (X : Vec Ideal S1x300x1024 .f32) (w : Vec Ideal S1024x768 .bf16) (b : Vec Ideal S1x768 .f32)
    (s : Fin 300) (c : Fin 768) :
    k0_pay3 X w b (ix2 s c) = proj (fun d => X (ix3 0 s d)) (fun d => w (ix2 d c)) (b (ix2 0 c)) := by
  pointwise [k0_pay3]
  rfl

/-- The kernel picks each head's score by the lane it stands in. -/
theorem score_at (v : FVec Ideal S300x768 .f32) (s : Fin 300) (h : Fin 4) :
    scoreT v (ix2 s h) = score (fun p => v (ix2 s (colQ h p))) (fun p => v (ix2 s (colK p))) := by
  pointwise [scoreT, k0_pay27, k0_pay25, k0_pay26]
  fin_cases h <;> simp [Scalar.select, IntOp.cmpi, score, colQ, colK]

/-- The kernel's softmax of the scores runs over the sequence. -/
theorem weight_at (v : FVec Ideal S300x4 .f32) (s : Fin 300) (h : Fin 4) :
    k0_pay136 v (ix2 s h) = weight (fun t => v (ix2 t h)) s := by
  pointwise [k0_pay136]
  rfl

/-- The kernel's pooled values: the weighted sums of the values, cut off below zero. -/
theorem pool_at (v : FVec Ideal S300x768 .f32) (p : FVec Ideal S300x4 .f32) (h : Fin 4) (j : Fin 128) :
    k0_pay174 v p (ix2 h j) = max (∑ s, p (ix2 s h) * v (ix2 s (colV j))) 0 := by
  pointwise [k0_pay174]
  rfl

variable (X : Fin 300 → Fin 1024 → EReal) (w : Vec Ideal S1024x768 .bf16) (b : Vec Ideal S1x768 .f32)

/-- The projections of a slot's rows. -/
def projs (s : Fin 300) (c : Fin 768) : EReal := proj (X s) (fun d => w (ix2 d c)) (b (ix2 0 c))

/-- The scores of a slot. -/
def scores (s : Fin 300) (h : Fin 4) : EReal :=
  score (fun p => projs X w b s (colQ h p)) (fun p => projs X w b s (colK p))

/-- The attention weights of a slot. -/
def weights (s : Fin 300) (h : Fin 4) : EReal := weight (fun t => scores X w b t h) s

/-- The pooled values of a slot. -/
def pooled (h : Fin 4) (j : Fin 128) : EReal :=
  max (∑ s, weights X w b s h * projs X w b s (colV j)) 0

variable (x0 : Vec Ideal S16x300x1024 .f32) (x1 : Vec Ideal S1024x768 .bf16) (x2 : Vec Ideal S1x768 .f32)

/-- The projections of slot `k` of a block as the kernel's operations give them. -/
def slotProj (k : ℕ) (hk : ∀ a, (![k, 0, 0] : Fin 3 → Nat) a + S1x300x1024.size a ≤ S16x300x1024.size a) :
    FVec Ideal S300x768 .f32 :=
  k0_pay3 (View.ld x0 (Rect.unit (s := S16x300x1024) ![k, 0, 0] S1x300x1024.size hk)) (View.ld x1 r0_1) (View.ld x2 r0_2)

/-- The rows of slot `k` of a block. -/
def rows (k : Fin 16) (s : Fin 300) (d : Fin 1024) : EReal := x0 (ix3 k s d)

/-- The projections of slot `k` are the projections of that slot's rows of features. -/
theorem slotProj_at (k : ℕ) (hk) (k' : Fin 16) (e : (k' : ℕ) = k) (s : Fin 300) (c : Fin 768) :
    slotProj x0 x1 x2 k hk (ix2 s c) = projs (rows x0 k') x1 x2 s c := by
  subst e
  refine (proj_at _ _ _ s c).trans ?_
  unfold projs rows
  congr 1
  · funext d
    refine View.ld_unit_apply_of _ _ _ _ _ _ fun a => ?_
    fin_cases a <;> simp [ix3]
  · funext d
    refine View.ld_unit_apply_of _ _ _ _ _ _ fun a => ?_
    fin_cases a <;> simp [ix2]
  · refine View.ld_unit_apply_of _ _ _ _ _ _ fun a => ?_
    fin_cases a <;> simp [ix2]

/-- The place a slot's index takes inside the slot. -/
theorem place3 {n m : ℕ} (x : (Shape.mk 3 ![1, n, m]).Idx) (u : Fin n) (v : Fin m) (l0 : (x 0 : ℕ) < 1)
    (h1 : (u : ℕ) = x 1) (h2 : (v : ℕ) = x 2) : x = ix3 0 u v := by
  funext a
  fin_cases a
  · exact Fin.ext (by simpa using l0)
  · exact Fin.ext h1.symm
  · exact Fin.ext h2.symm

/-- The scores of slot `k` of a block. -/
theorem slotScore_at (k : ℕ) (hk) (k' : Fin 16) (e : (k' : ℕ) = k) (s : Fin 300) (h : Fin 4) :
    scoreT (slotProj x0 x1 x2 k hk) (ix2 s h) = scores (rows x0 k') x1 x2 s h := by
  rw [score_at]
  simp only [slotProj_at x0 x1 x2 k hk k' e]
  rfl

/-- The attention weights of slot `k` of a block. -/
theorem slotWeight_at (k : ℕ) (hk) (k' : Fin 16) (e : (k' : ℕ) = k) (s : Fin 300) (h : Fin 4) :
    k0_pay136 (scoreT (slotProj x0 x1 x2 k hk)) (ix2 s h) = weights (rows x0 k') x1 x2 s h := by
  rw [weight_at]
  simp only [slotScore_at x0 x1 x2 k hk k' e]
  rfl

/-- The pooled values of slot `k` of a block. -/
theorem slotPool_at (k : ℕ) (hk) (k' : Fin 16) (e : (k' : ℕ) = k) (h : Fin 4) (j : Fin 128) :
    k0_pay174 (slotProj x0 x1 x2 k hk) (k0_pay136 (scoreT (slotProj x0 x1 x2 k hk))) (ix2 h j)
      = pooled (rows x0 k') x1 x2 h j := by
  rw [pool_at]
  simp only [slotWeight_at x0 x1 x2 k hk k' e, slotProj_at x0 x1 x2 k hk k' e]
  rfl

/-- Storing a slot's array keeps every value in its place. -/
theorem stored (v : FVec Ideal S300x4 .f32) (s : Fin 300) (h : Fin 4) : k0_pay28 v (ix3 0 s h) = v (ix2 s h) := by
  pointwise [k0_pay28]

/-- The scores slot `k` stores. -/
theorem store_scores (k : ℕ) (hk) (x : S1x300x4.Idx) (i : Fin 16) (s : Fin 300) (h : Fin 4) (h0 : (i : ℕ) = k + x 0)
    (l0 : (x 0 : ℕ) < 1) (h1 : (s : ℕ) = x 1) (h2 : (h : ℕ) = x 2) :
    k0_pay28 (scoreT (slotProj x0 x1 x2 k hk)) x = scores (rows x0 i) x1 x2 s h := by
  rw [place3 x s h l0 h1 h2]
  exact (stored _ s h).trans (slotScore_at x0 x1 x2 k hk i (by omega) s h)

/-- The attention weights slot `k` stores. -/
theorem store_weights (k : ℕ) (hk) (x : S1x300x4.Idx) (i : Fin 16) (s : Fin 300) (h : Fin 4) (h0 : (i : ℕ) = k + x 0)
    (l0 : (x 0 : ℕ) < 1) (h1 : (s : ℕ) = x 1) (h2 : (h : ℕ) = x 2) :
    k0_pay28 (k0_pay136 (scoreT (slotProj x0 x1 x2 k hk))) x = weights (rows x0 i) x1 x2 s h := by
  rw [place3 x s h l0 h1 h2]
  exact (stored _ s h).trans (slotWeight_at x0 x1 x2 k hk i (by omega) s h)

/-- The pooled values slot `k` stores for head 0. -/
theorem store_pool0 (k : ℕ) (hk) (x : S1x1x128.Idx) (i : Fin 16) (j : Fin 128) (h0 : (i : ℕ) = k + x 0)
    (l0 : (x 0 : ℕ) < 1) (l1 : (x 1 : ℕ) < 1) (h2 : (j : ℕ) = x 2) :
    k0_pay175 (slotProj x0 x1 x2 k hk) (k0_pay136 (scoreT (slotProj x0 x1 x2 k hk))) x
      = pooled (rows x0 i) x1 x2 0 j := by
  rw [place3 x (0 : Fin 1) j l0 (by simp) h2]
  refine Eq.trans ?_ (slotPool_at x0 x1 x2 k hk i (by omega) 0 j)
  pointwise [k0_pay175]

/-- The pooled values slot `k` stores for head 1. -/
theorem store_pool1 (k : ℕ) (hk) (x : S1x1x128.Idx) (i : Fin 16) (j : Fin 128) (h0 : (i : ℕ) = k + x 0)
    (l0 : (x 0 : ℕ) < 1) (l1 : (x 1 : ℕ) < 1) (h2 : (j : ℕ) = x 2) :
    k0_pay176 (slotProj x0 x1 x2 k hk) (k0_pay136 (scoreT (slotProj x0 x1 x2 k hk))) x
      = pooled (rows x0 i) x1 x2 1 j := by
  rw [place3 x (0 : Fin 1) j l0 (by simp) h2]
  refine Eq.trans ?_ (slotPool_at x0 x1 x2 k hk i (by omega) 1 j)
  pointwise [k0_pay176]

/-- The pooled values slot `k` stores for head 2. -/
theorem store_pool2 (k : ℕ) (hk) (x : S1x1x128.Idx) (i : Fin 16) (j : Fin 128) (h0 : (i : ℕ) = k + x 0)
    (l0 : (x 0 : ℕ) < 1) (l1 : (x 1 : ℕ) < 1) (h2 : (j : ℕ) = x 2) :
    k0_pay177 (slotProj x0 x1 x2 k hk) (k0_pay136 (scoreT (slotProj x0 x1 x2 k hk))) x
      = pooled (rows x0 i) x1 x2 2 j := by
  rw [place3 x (0 : Fin 1) j l0 (by simp) h2]
  refine Eq.trans ?_ (slotPool_at x0 x1 x2 k hk i (by omega) 2 j)
  pointwise [k0_pay177]

/-- The pooled values slot `k` stores for head 3. -/
theorem store_pool3 (k : ℕ) (hk) (x : S1x1x128.Idx) (i : Fin 16) (j : Fin 128) (h0 : (i : ℕ) = k + x 0)
    (l0 : (x 0 : ℕ) < 1) (l1 : (x 1 : ℕ) < 1) (h2 : (j : ℕ) = x 2) :
    k0_pay178 (slotProj x0 x1 x2 k hk) (k0_pay136 (scoreT (slotProj x0 x1 x2 k hk))) x
      = pooled (rows x0 i) x1 x2 3 j := by
  rw [place3 x (0 : Fin 1) j l0 (by simp) h2]
  refine Eq.trans ?_ (slotPool_at x0 x1 x2 k hk i (by omega) 3 j)
  pointwise [k0_pay178]

/-- The scores' window after a block: the scores of every slot. -/
theorem out3 (y : S16x300x4.Idx) : out0_3 x0 x1 x2 y = scores (rows x0 (y 0)) x1 x2 (y 1) (y 2) := by
  unfold out0_3
  canon_tiles x h
  all_goals exact store_scores x0 x1 x2 _ _ x _ _ _ (by omega) x0_lt h1 h2

/-- The weights' window after a block: the attention weights of every slot. -/
theorem out4 (y : S16x300x4.Idx) : out0_4 x0 x1 x2 y = weights (rows x0 (y 0)) x1 x2 (y 1) (y 2) := by
  unfold out0_4
  canon_tiles x h
  all_goals exact store_weights x0 x1 x2 _ _ x _ _ _ (by omega) x0_lt h1 h2

/-- The pooled window of head 0 after a block. -/
theorem out5 (y : S16x1x128.Idx) : out0_5 x0 x1 x2 y = pooled (rows x0 (y 0)) x1 x2 0 (y 2) := by
  unfold out0_5
  canon_tiles x h
  all_goals exact store_pool0 x0 x1 x2 _ _ x _ _ (by omega) x0_lt x1_lt h2

/-- The pooled window of head 1 after a block. -/
theorem out6 (y : S16x1x128.Idx) : out0_6 x0 x1 x2 y = pooled (rows x0 (y 0)) x1 x2 1 (y 2) := by
  unfold out0_6
  canon_tiles x h
  all_goals exact store_pool1 x0 x1 x2 _ _ x _ _ (by omega) x0_lt x1_lt h2

/-- The pooled window of head 2 after a block. -/
theorem out7 (y : S16x1x128.Idx) : out0_7 x0 x1 x2 y = pooled (rows x0 (y 0)) x1 x2 2 (y 2) := by
  unfold out0_7
  canon_tiles x h
  all_goals exact store_pool2 x0 x1 x2 _ _ x _ _ (by omega) x0_lt x1_lt h2

/-- The pooled window of head 3 after a block. -/
theorem out8 (y : S16x1x128.Idx) : out0_8 x0 x1 x2 y = pooled (rows x0 (y 0)) x1 x2 3 (y 2) := by
  unfold out0_8
  canon_tiles x h
  all_goals exact store_pool3 x0 x1 x2 _ _ x _ _ (by omega) x0_lt x1_lt h2

end Cert.Slot
end
-- ==== Proof.Head.lean ====
/-
What the second kernel computes: per head the class logits and their layer norm, then the largest head, which head it
is, the sigmoid, and the regulariser.
-/
module

public import proofs.«01_k».proof.Proof.Slot

@[expose] public section

set_option maxRecDepth 16384

noncomputable section

namespace Cert.Head

open Idealize.ShloMosaic Idealize.ShloMosaic.Pipeline Cert.KernelIdeal Cert.KernelIdeal.Gen

/-- A class's logit: a pooled row against the class's weights, plus its bias. -/
def logit (x : Fin 128 → EReal) (w : Fin 128 → EReal) (b : EReal) : EReal := ∑ p, x p * w p + b

/-- A family of class values less its mean. -/
def centre (l : Fin 3862 → EReal) (k : Fin 3862) : EReal :=
  l k - Ideal.div (∑ x, l x) (Ideal.ofBits .f32 0x45716000#32)

/-- The spread of a family of class values, from the values less their mean. -/
def spread (d : Fin 3862 → EReal) : EReal :=
  Ideal.sqrt (Ideal.div (∑ x, d x * d x) (Ideal.ofBits .f32 0x45715000#32))

/-- The layer norm of a family of class values. -/
def norm (l : Fin 3862 → EReal) (a b : EReal) (k : Fin 3862) : EReal :=
  Ideal.div (a * centre l k) (spread (centre l) + Ideal.ofBits .f32 0x358637BD#32) + b

/-- The kernel's layer-normed logits of one head. -/
theorem norm_at (w : Vec Ideal S128x3862 .f32) (bc la lb : Vec Ideal S1x3862 .f32) (x : Vec Ideal S64x1x128 .f32)
    (i : Fin 64) (k : Fin 3862) :
    k1_pay7 w bc la lb x (ix2 i k)
      = norm (fun k' => logit (fun p => x (ix3 i 0 p)) (fun p => w (ix2 p k')) (bc (ix2 0 k'))) (la (ix2 0 k)) (lb (ix2 0 k)) k := by
  pointwise [k1_pay7, k1_pay3, k1_pay2, k1_pay4, k1_pay5, k1_pay6]
  rfl

/-- The larger of two heads' values as the kernel selects it. -/
def larger (new old : FVec Ideal S64x3862 .f32) : FVec Ideal S64x3862 .f32 := select (cmpf .ogt new old) new old

/-- The number of the head so far, replaced by `n` where the new head's value is larger. -/
def mark (n : BitVec 32) (new old : FVec Ideal S64x3862 .f32) (k : IVec S64x3862 32) : IVec S64x3862 32 :=
  select (cmpf .ogt new old) (broadcast S64x3862 n) k

variable (x0 x1 x2 x3 : Vec Ideal S64x1x128 .f32) (w : Vec Ideal S128x3862 .f32) (bc la lb : Vec Ideal S1x3862 .f32)

/-- The largest head's values. -/
def best : FVec Ideal S64x3862 .f32 :=
  larger (k1_pay7 w bc la lb x3) (larger (k1_pay7 w bc la lb x2) (larger (k1_pay7 w bc la lb x1) (k1_pay7 w bc la lb x0)))

/-- Which head is the largest. -/
def bestAt : IVec S64x3862 32 :=
  mark 3#32 (k1_pay7 w bc la lb x3) (larger (k1_pay7 w bc la lb x2) (larger (k1_pay7 w bc la lb x1) (k1_pay7 w bc la lb x0)))
    (mark 2#32 (k1_pay7 w bc la lb x2) (larger (k1_pay7 w bc la lb x1) (k1_pay7 w bc la lb x0))
      (mark 1#32 (k1_pay7 w bc la lb x1) (k1_pay7 w bc la lb x0) (broadcast S64x3862 0#32)))

/-- The first result's block: the sigmoid of the largest head's values. -/
theorem out8 : out1_8 x0 x1 x2 x3 w bc la lb = logistic (best x0 x1 x2 x3 w bc la lb) := by
  unfold out1_8
  frame_out
  simp (disch := decide) only [k1_pay23, k1_pay24, k1_pay25, k1_pay26, k1_pay27, k1_pay28, k1_pay29, k1_pay30,
    k1_pay31, View.ld_unit_lit']
  rfl

/-- The second result's block: which head is the largest. -/
theorem out9 : out1_9 x0 x1 x2 x3 w bc la lb = bestAt x0 x1 x2 x3 w bc la lb := by
  unfold out1_9
  frame_out
  simp (disch := decide) only [k1_pay23, k1_pay24, k1_pay25, k1_pay26, k1_pay27, k1_pay28, k1_pay29, k1_pay30,
    k1_pay31, View.ld_unit_lit']
  rfl

/-- The classifier's weights pass through the kernel's cast unchanged. -/
theorem pay2_eq : k1_pay2 w = w := by
  funext j
  idx_vars j
  pointwise [k1_pay2]

/-- The classifier's biases pass through the kernel's cast unchanged. -/
theorem pay4_eq : k1_pay4 bc = bc := by
  funext j
  idx_vars j
  pointwise [k1_pay4]

/-- The third result's block. -/
theorem out10 : out1_10 x0 x1 x2 x3 w bc la lb = k1_pay1 (k1_pay2 w) (k1_pay4 bc) := by
  unfold out1_10
  frame_out
  simp (disch := decide) only [k1_pay24, View.ld_unit_lit']

/-- Selecting the larger value takes the maximum. -/
theorem larger_at (v u : FVec Ideal S64x3862 .f32) (i k) : larger v u (ix2 i k) = max (u (ix2 i k)) (v (ix2 i k)) := by
  pointwise [larger]
  split
  · exact (max_eq_right (by order)).symm
  · exact (max_eq_left (by order)).symm

/-- The head's number moves on where its value is larger. -/
theorem mark_at (v u : FVec Ideal S64x3862 .f32) (n q i k) :
    mark n v u q (ix2 i k) = if u (ix2 i k) < v (ix2 i k) then n else q (ix2 i k) := by
  pointwise [mark]

/-- The regulariser: sixty-four times the bounded spread of the softmax of the classifier's summed weights. -/
theorem loss_at (u : FVec Ideal S128x3862 .f32) (v : FVec Ideal S1x3862 .f32) (j) :
    k1_pay1 u v j = Ideal.ofBits .f32 0x42800000#32
      * min (Ideal.ofBits .f32 0x4E6E6B28#32) (max (Ideal.ofBits .f32 0x3089705F#32)
        (spread (centre (Slot.weight fun k => ∑ p, u (ix2 p k) + v (ix2 0 k))))) := by
  idx_vars j
  pointwise [k1_pay1]
  rfl

end Cert.Head
end
-- ==== Proof.RefAt.lean ====
/-
The reference's stages read at one place.
-/
module

public import proofs.«01_k».proof.Proof.RefTerms
public import proofs.«01_k».proof.Proof.Head
public import Idealize.ShloMosaic.Lib.Pointwise

@[expose] public section

set_option maxRecDepth 16384

noncomputable section

namespace Cert.RefAt

open Idealize.ShloMosaic Cert.ReferenceIdeal Cert.RefTerms

/-- A key or value: one row of features against one row of weights. -/
theorem lin_at (x : FVec Ideal S64x300x1024 .f32) (w : FVec Ideal S128x1024 .f32) (b : FVec Ideal S128 .f32)
    (i : Fin 64) (s : Fin 300) (p : Fin 128) :
    lin x w b (ix3 i s p) = Slot.proj (fun d => x (ix3 i s d)) (fun d => w (ix2 p d)) (b (ix1 p)) := by
  pointwise [lin]
  rfl

/-- A query of one head. -/
theorem query_at (x : FVec Ideal S64x300x1024 .f32) (w : FVec Ideal S4x128x1024 .f32) (b : FVec Ideal S4x128 .f32)
    (i : Fin 64) (h : Fin 4) (s : Fin 300) (p : Fin 128) :
    query x w b (ix4 i h s p) = Slot.proj (fun d => x (ix3 i s d)) (fun d => w (ix3 h p d)) (b (ix2 h p)) := by
  pointwise [query]
  unfold Slot.proj
  congr 1
  exact Finset.sum_congr rfl fun d _ => mul_comm _ _

/-- A score: the scaled product of a query and a key. -/
theorem score_at (k : FVec Ideal S64x300x128 .f32) (q : FVec Ideal S64x4x300x128 .f32) (i : Fin 64) (h : Fin 4) (s : Fin 300) :
    score k q (ix3 i h s) = Slot.score (fun p => q (ix4 i h s p)) (fun p => k (ix3 i s p)) := by
  pointwise [score]
  unfold Slot.score
  congr 1
  exact Finset.sum_congr rfl fun d _ => mul_comm _ _

/-- Starting once more from the first value changes no maximum. -/
theorem top_again {n : ℕ} (a : Fin n → EReal) : max (Ideal.ofBits .f32 0xFF800000#32) (Slot.top a) = Slot.top a :=
  max_eq_right (Finset.le_fold_max (b := Ideal.ofBits .f32 0xFF800000#32) _ |>.mpr (Or.inl le_rfl))

/-- The largest score of one head. -/
theorem top_at (k : FVec Ideal S64x4x300 .f32) (i : Fin 64) (h : Fin 4) (s : Fin 300) :
    top k (ix3 i h s) = Slot.top fun t => k (ix3 i h t) := by
  pointwise [top]
  exact top_again _

/-- An attention weight. -/
theorem softmax_at (k : FVec Ideal S64x4x300 .f32) (i : Fin 64) (h : Fin 4) (s : Fin 300) :
    softmax k (ix3 i h s) = Slot.weight (fun t => k (ix3 i h t)) s := by
  pointwise [softmax]
  simp only [top_at]
  rfl

/-- A pooled value. -/
theorem attend_at (p : FVec Ideal S64x4x300 .f32) (v : FVec Ideal S64x300x128 .f32) (i : Fin 64) (h : Fin 4) (j : Fin 128) :
    attend p v (ix3 i h j) = max (∑ s, p (ix3 i h s) * v (ix3 i s j)) 0 := by
  pointwise [attend]

/-- A class logit. -/
theorem logits_at (w : FVec Ideal S64x4x128 .f32) (wc : FVec Ideal S3862x128 .f32) (bc : FVec Ideal S3862 .f32)
    (i : Fin 64) (h : Fin 4) (k : Fin 3862) :
    logits w wc bc (ix3 i h k) = Head.logit (fun p => w (ix3 i h p)) (fun p => wc (ix2 k p)) (bc (ix1 k)) := by
  pointwise [logits]
  rfl

/-- A logit less the mean. -/
theorem centred_at (l : FVec Ideal S64x4x3862 .f32) (i : Fin 64) (h : Fin 4) (k : Fin 3862) :
    centred l (ix3 i h k) = Head.centre (fun k => l (ix3 i h k)) k := by
  pointwise [centred, mean]
  rfl

/-- A normalised logit. -/
theorem normed_at (l : FVec Ideal S64x4x3862 .f32) (a b : FVec Ideal S3862 .f32) (i : Fin 64) (k : Fin 3862) (h : Fin 4) :
    normed (centred l) a b (ix3 i k h) = Head.norm (fun k => l (ix3 i h k)) (a (ix1 k)) (b (ix1 k)) k := by
  pointwise [normed, spread]
  simp only [centred_at]
  rfl

/-- The largest over the heads. -/
theorem best_at (n : FVec Ideal S64x3862x4 .f32) (i : Fin 64) (k : Fin 3862) :
    best n (ix2 i k) = Finset.fold max (Ideal.ofBits .f32 0xFF800000#32) (fun h => n (ix3 i k h)) Finset.univ := by
  pointwise [best]

/-- A probability: the logistic function of the largest normalised logit. -/
theorem sigmoid_at (x : FVec Ideal S64x3862 .f32) (i : Fin 64) (k : Fin 3862) :
    sigmoid x (ix2 i k) = Ideal.logistic (x (ix2 i k)) := by
  pointwise [sigmoid]
  rfl

/-- The heads moved last. -/
theorem headsLast_at (k : FVec Ideal S64x4x300 .f32) (i : Fin 64) (s : Fin 300) (h : Fin 4) :
    headsLast k (ix3 i s h) = k (ix3 i h s) := by
  pointwise [headsLast]

/-- The classifier's summed weights, the same for every batch entry. -/
theorem conv_at (wc : FVec Ideal S3862x128 .f32) (bc : FVec Ideal S3862 .f32) (i : Fin 64) (k : Fin 3862) :
    conv wc bc (ix2 i k) = ∑ p, wc (ix2 k p) + bc (ix1 k) := by
  pointwise [conv]

/-- The largest of the classifier's summed weights. -/
theorem convTop_at (s : FVec Ideal S64x3862 .f32) (i : Fin 64) (k : Fin 3862) :
    convTop s (ix2 i k) = Slot.top fun t => s (ix2 i t) := by
  pointwise [convTop]
  exact top_again _

/-- The softmax over the classes. -/
theorem convSoftmax_at (s : FVec Ideal S64x3862 .f32) (i : Fin 64) (k : Fin 3862) :
    convSoftmax s (ix2 i k) = Slot.weight (fun t => s (ix2 i t)) k := by
  pointwise [convSoftmax]
  simp only [convTop_at]
  rfl

/-- A class's share less the mean. -/
theorem convCentred_at (s : FVec Ideal S64x3862 .f32) (i : Fin 64) (k : Fin 3862) :
    convCentred s (ix2 i k) = Head.centre (fun t => s (ix2 i t)) k := by
  pointwise [convCentred]
  rfl

/-- The spread of the shares. -/
theorem convSpread_at (d : FVec Ideal S64x3862 .f32) (i : Fin 64) :
    convSpread d (ix1 i) = Head.spread fun t => d (ix2 i t) := by
  pointwise [convSpread]
  rfl

/-- The kernel's batch size as a number. -/
theorem sixtyFour : Ideal.ofBits .f32 0x42800000#32 = ((64 : ℕ) : EReal) := by
  simp [Ideal.ofBits, Ideal.ieee, -EReal.coe_mul]
  norm_num
  rfl

/-- Sixty-four equal bounded spreads add up to sixty-four times one of them. -/
theorem convLoss_at (s : FVec Ideal S64 .f32) (v : EReal) (h : ∀ i, s (ix1 i) = v) :
    convLoss s ix0 = Ideal.ofBits .f32 0x42800000#32
      * min (Ideal.ofBits .f32 0x4E6E6B28#32) (max (Ideal.ofBits .f32 0x3089705F#32) v) := by
  pointwise [convLoss]
  simp only [h]
  rw [sixtyFour, ← EReal.nsmul_eq_mul]
  exact (Finset.sum_const _).trans (by rw [Finset.card_univ, Fintype.card_fin]; rfl)

end Cert.RefAt
end
-- ==== Proof.Pick.lean ====
/-
The largest of the four heads and the number of the first head that attains it: the reference's paired reduction is the
kernel's chain of selections.
-/
module

public import proofs.«01_k».proof.Proof.RefTerms
public import Idealize.ShloMosaic.Lib.Pointwise
public import Idealize.ShloMosaic.PureOps.Ideal.Laws
public import Idealize.ShloMosaic.PureOps.Reduce

@[expose] public section

set_option maxRecDepth 16384

noncomputable section

namespace Cert.Pick

open Idealize.ShloMosaic Cert.ReferenceIdeal Cert.ReferenceIdeal.Facts₀

/-- A value with a number: larger values first, and among equal values the smaller number first. -/
def key (a : EReal × BitVec 32) : EReal ×ₗ ℤᵒᵈ := toLex (a.1, OrderDual.toDual a.2.toInt)

/-- A value and a number are determined by their place in that order. -/
theorem key_injective : Function.Injective key := by
  rintro ⟨a, i⟩ ⟨b, j⟩ h
  have h' := toLex.injective h
  rw [Prod.mk.injEq] at h'
  exact Prod.ext h'.1 (BitVec.eq_of_toInt_eq h'.2)

/-- The reference's step, with its comparisons spelt out. -/
theorem step_eq (a b : EReal) (i j : BitVec 32) :
    reducer_argmax_f32_i32 (F := Ideal) (a, i) (b, j)
      = if b < a ∨ (a = b ∧ i.toInt < j.toInt) then (a, i) else (b, j) := by
  rcases lt_trichotomy a b with h | h | h
  · simp [reducer_argmax_f32_i32, Ideal.cmpf_def, Ideal.cmp, IntOp.ori, IntOp.andi, IntOp.cmpi, Scalar.select, h.ne, h.not_gt]
  · subst h
    by_cases h' : i.toInt < j.toInt <;>
      simp [reducer_argmax_f32_i32, Ideal.cmpf_def, Ideal.cmp, IntOp.ori, IntOp.andi, IntOp.cmpi, Scalar.select, BitVec.slt, h']
  · simp [reducer_argmax_f32_i32, Ideal.cmpf_def, Ideal.cmp, IntOp.ori, IntOp.andi, IntOp.cmpi, Scalar.select, h.ne', h]

/-- The reference's step keeps the pair that comes first in that order. -/
theorem key_step (a b : EReal × BitVec 32) :
    key (reducer_argmax_f32_i32 (F := Ideal) a b) = max (key a) (key b) := by
  obtain ⟨a, i⟩ := a
  obtain ⟨b, j⟩ := b
  rw [step_eq]
  split <;> rename_i h
  · refine (max_eq_left ?_).symm
    rw [Prod.Lex.le_iff]
    rcases h with h | ⟨h, h'⟩
    · exact Or.inl h
    · exact Or.inr ⟨h.symm, h'.le⟩
  · refine (max_eq_right ?_).symm
    rw [Prod.Lex.le_iff]
    rw [not_or, not_and, not_lt, not_lt] at h
    rcases lt_or_eq_of_le h.1 with h' | h'
    · exact Or.inl h'
    · exact Or.inr ⟨h', h.2 h'⟩

instance : Std.Commutative (reducer_argmax_f32_i32 (F := Ideal)) :=
  ⟨fun a b => key_injective (by simp only [key_step]; exact max_comm _ _)⟩

instance : Std.Associative (reducer_argmax_f32_i32 (F := Ideal)) :=
  ⟨fun a b c => key_injective (by simp only [key_step]; exact max_assoc _ _ _)⟩

/-- The first value the heads' comparison starts from lies below every value. -/
theorem bottom : Ideal.ofBits .f32 0xFF800000#32 = ⊥ := by
  simp [Ideal.ofBits, Ideal.ieee]

/-- A fold over four heads, head by head. -/
theorem fold_four {α : Type} (op : α → α → α) [Std.Commutative op] [Std.Associative op] (b : α) (f : Fin 4 → α) :
    Finset.fold op b f Finset.univ = op (op (op (op b (f 0)) (f 1)) (f 2)) (f 3) := by
  have h : Finset.fold op b f Finset.univ = op (f 0) (op (f 1) (op (f 2) (op (f 3) b))) := rfl
  rw [h]
  ac_rfl

/-- A later head takes over where its value is larger. -/
theorem step_later (a b : EReal) (i j : BitVec 32) (h : i.toInt < j.toInt) :
    reducer_argmax_f32_i32 (F := Ideal) (a, i) (b, j) = if a < b then (b, j) else (a, i) := by
  rw [step_eq]
  rcases lt_trichotomy a b with h' | h' | h'
  · simp [h', h'.not_gt, h'.ne]
  · simp [h', h]
  · simp [h', h'.not_gt]

/-- The largest of four values, value by value. -/
theorem four (L : Fin 4 → EReal) :
    Finset.fold max (Ideal.ofBits .f32 0xFF800000#32) L Finset.univ = max (max (max (L 0) (L 1)) (L 2)) (L 3) := by
  rw [bottom, fold_four, max_eq_right (bot_le (a := L 0))]

/-- The first head takes over from the starting pair. -/
theorem step_first (a : EReal) : reducer_argmax_f32_i32 (F := Ideal) (⊥, 0#32) (a, 0#32) = (a, 0#32) := by
  rw [step_eq]
  simp

/-- One step of the ladder: the larger value together with its head's number. -/
theorem step_ladder (a b : EReal) (i j : BitVec 32) (h : i.toInt < j.toInt) :
    reducer_argmax_f32_i32 (F := Ideal) (a, i) (b, j) = (max a b, if a < b then j else i) := by
  rw [step_later a b i j h]
  split <;> rename_i h'
  · rw [max_eq_right h'.le]
  · rw [max_eq_left (not_lt.mp h')]

/-- A selected number lies below `n` where both candidates do. -/
theorem pick_lt {p : Prop} [Decidable p] {i j : BitVec 32} {n : Int} (hi : i.toInt < n) (hj : j.toInt < n) :
    (if p then i else j).toInt < n := by
  split <;> assumption

/-- The reference's number of the largest head is the kernel's chain of selections. -/
theorem four_at (L : Fin 4 → EReal) :
    (Finset.fold (reducer_argmax_f32_i32 (F := Ideal)) (Ideal.ofBits .f32 0xFF800000#32, 0#32)
      (fun h => (L h, BitVec.ofNat 32 h.val)) Finset.univ).2
      = if max (max (L 0) (L 1)) (L 2) < L 3 then 3#32 else if max (L 0) (L 1) < L 2 then 2#32
        else if L 0 < L 1 then 1#32 else 0#32 := by
  rw [bottom, fold_four]
  have h0 : reducer_argmax_f32_i32 (F := Ideal) (⊥, 0#32) (L 0, BitVec.ofNat 32 (0 : Fin 4).val) = (L 0, 0#32) :=
    step_first _
  have h1 : reducer_argmax_f32_i32 (F := Ideal) (L 0, 0#32) (L 1, BitVec.ofNat 32 (1 : Fin 4).val)
      = (max (L 0) (L 1), if L 0 < L 1 then 1#32 else 0#32) := step_ladder _ _ _ _ (by decide)
  have h2 := step_ladder (max (L 0) (L 1)) (L 2) (if L 0 < L 1 then 1#32 else 0#32) 2#32
    (pick_lt (by decide) (by decide))
  have h3 := step_ladder (max (max (L 0) (L 1)) (L 2)) (L 3)
    (if max (L 0) (L 1) < L 2 then 2#32 else if L 0 < L 1 then 1#32 else 0#32) 3#32
    (pick_lt (by decide) (pick_lt (by decide) (by decide)))
  rw [h0, h1]
  exact congrArg Prod.snd ((congrArg (fun a => reducer_argmax_f32_i32 (F := Ideal) a (L 3, 3#32)) h2).trans h3)

/-- The reference's number of the largest head, read at one class of one batch entry. -/
theorem bestAt_at (n : FVec Ideal S64x3862x4 .f32) (i : Fin 64) (k : Fin 3862) :
    RefTerms.bestAt n (ix2 i k)
      = (Finset.fold (reducer_argmax_f32_i32 (F := Ideal)) (Ideal.ofBits .f32 0xFF800000#32, 0#32)
          (fun h : Fin 4 => (n (ix3 i k h), BitVec.ofNat 32 h.val)) Finset.univ).2 := by
  unfold RefTerms.bestAt
  rw [Ideal.argReduce_eq_reduce2]
  unfold Host.reduce2
  rw [Shape.foldl_filter_rowMajor_eq_fold (reducesTo_S64x3862x4_S64x3862_d2).drop (reducer_argmax_f32_i32 (F := Ideal)) _
    (fun j => (n j, iotaInDim S64x3862x4 32 2 j))]
  rw [Shape.ReducesTo.fold_fiber_r3_a2]
  rfl
end Cert.Pick
end
-- ==== Proof.Entry.lean ====
/-
What the kernels' operands hold when they start, in terms of the arguments.
-/
module

public import proofs.«01_k».proof.Proof.Slot
public import Idealize.ShloMosaic.Lib.Claim

@[expose] public section

set_option maxRecDepth 16384

noncomputable section

namespace Cert.Entry

open Idealize.ShloMosaic Cert.KernelIdeal Cert.KernelIdeal.Gen Cert.Slot

/-- The weights of queries, keys and values side by side. -/
def joinedW (wq : FVec Ideal S4x128x1024 .f32) (wk wv : FVec Ideal S128x1024 .f32) : FVec Ideal S1024x768 .bf16 :=
  truncf .bf16 (transpose S1024x768 [1, 0]
    (concatenate S768x1024 0 [⟨S512x1024, shapeCast S512x1024 wq shapeCasts_S4x128x1024_S512x1024⟩, ⟨S128x1024, wk⟩, ⟨S128x1024, wv⟩]
      concatenates_S512x1024_S128x1024_S128x1024_S768x1024_d0) transposes_S768x1024_S1024x768_1_0) bitsLt_bf16_f32

/-- The biases of queries, keys and values side by side. -/
def joinedB (bq : FVec Ideal S4x128 .f32) (bk bv : FVec Ideal S128 .f32) : FVec Ideal S1x768 .f32 :=
  shapeCast S1x768 (concatenate S768 0 [⟨S512, shapeCast S512 bq shapeCasts_S4x128_S512⟩, ⟨S128, bk⟩, ⟨S128, bv⟩]
    concatenates_S512_S128_S128_S768_d0) shapeCasts_S768_S1x768

section
variable (wq : FVec Ideal S4x128x1024 .f32) (wk wv : FVec Ideal S128x1024 .f32) (bq : FVec Ideal S4x128 .f32)
  (bk bv : FVec Ideal S128 .f32)

/-- The joined weights' query columns are the heads' query weights. -/
theorem joinedW_q (d : Fin 1024) (h : Fin 4) (p : Fin 128) : joinedW wq wk wv (ix2 d (colQ h p)) = wq (ix3 h p d) := by
  pointwise [joinedW]
  refine (dif_pos (show h.val * 128 + p.val < 512 by omega)).trans ?_
  blk_ext [colQ]

/-- The joined weights' key columns are the key weights. -/
theorem joinedW_k (d : Fin 1024) (p : Fin 128) : joinedW wq wk wv (ix2 d (colK p)) = wk (ix2 p d) := by
  pointwise [joinedW]
  refine (dif_neg (show ¬ 512 + p.val < 512 by omega)).trans ((dif_pos (show 512 + p.val - 512 < 128 by omega)).trans ?_)
  blk_ext [colK]

/-- The joined weights' value columns are the value weights. -/
theorem joinedW_v (d : Fin 1024) (p : Fin 128) : joinedW wq wk wv (ix2 d (colV p)) = wv (ix2 p d) := by
  pointwise [joinedW]
  refine (dif_neg (show ¬ 640 + p.val < 512 by omega)).trans ((dif_neg (show ¬ 640 + p.val - 512 < 128 by omega)).trans ?_)
  blk_ext [colV]

/-- The joined biases' query entries are the heads' query biases. -/
theorem joinedB_q (h : Fin 4) (p : Fin 128) : joinedB bq bk bv (ix2 0 (colQ h p)) = bq (ix2 h p) := by
  pointwise [joinedB]
  refine (dif_pos (show h.val * 128 + p.val < 512 by omega)).trans ?_
  blk_ext [colQ]

/-- The joined biases' key entries are the key biases. -/
theorem joinedB_k (p : Fin 128) : joinedB bq bk bv (ix2 0 (colK p)) = bk (ix1 p) := by
  pointwise [joinedB]
  refine (dif_neg (show ¬ 512 + p.val < 512 by omega)).trans ((dif_pos (show 512 + p.val - 512 < 128 by omega)).trans ?_)
  blk_ext [colK]

/-- The joined biases' value entries are the value biases. -/
theorem joinedB_v (p : Fin 128) : joinedB bq bk bv (ix2 0 (colV p)) = bv (ix1 p) := by
  pointwise [joinedB]
  refine (dif_neg (show ¬ 640 + p.val < 512 by omega)).trans ((dif_neg (show ¬ 640 + p.val - 512 < 128 by omega)).trans ?_)
  blk_ext [colV]
end

/-- The classifier's weights with the classes last. -/
def turned (wc : FVec Ideal S3862x128 .f32) : FVec Ideal S128x3862 .f32 :=
  transpose S128x3862 [1, 0] wc transposes_S3862x128_S128x3862_1_0

/-- Turning the classifier's weights swaps their two axes. -/
theorem turned_at (wc : FVec Ideal S3862x128 .f32) (p : Fin 128) (k : Fin 3862) : turned wc (ix2 p k) = wc (ix2 k p) := by
  pointwise [turned]

/-- A vector over the classes as one row. -/
def rowOf (b : FVec Ideal S3862 .f32) : FVec Ideal S1x3862 .f32 := shapeCast S1x3862 b shapeCasts_S3862_S1x3862

/-- The row keeps every entry. -/
theorem rowOf_at (b : FVec Ideal S3862 .f32) (k : Fin 3862) : rowOf b (ix2 0 k) = b (ix1 k) := by
  pointwise [rowOf]

variable (m : (ℓ : Loc nD τ sig) → Buf (Elt Ideal) ℓ) (ρ : Dev nD → PrngReg) (c : Dev nD)

/-- The first kernel's weights are the joined ones. -/
theorem v3 : V1 m ρ c main_v3 = joinedW (m ((c.tc : Thread nD τ).loc main_arg1)) (m ((c.tc : Thread nD τ).loc main_arg3))
    (m ((c.tc : Thread nD τ).loc main_arg5)) := by
  show StableHlo.after hostOps0 (W0 m ρ c) _ = _
  after_results
  rfl

/-- The first kernel's biases are the joined ones. -/
theorem v6 : V1 m ρ c main_v6 = joinedB (m ((c.tc : Thread nD τ).loc main_arg2)) (m ((c.tc : Thread nD τ).loc main_arg4))
    (m ((c.tc : Thread nD τ).loc main_arg6)) := by
  show StableHlo.after hostOps0 (W0 m ρ c) _ = _
  after_results
  rfl

/-- The second kernel's weights. -/
theorem v7 : V2 m ρ c main_v7 = turned (m ((c.tc : Thread nD τ).loc main_arg7)) := by
  refine (W2_of m ρ c main_v7 (by decide +kernel)).trans ?_
  show StableHlo.after hostOps0 (W0 m ρ c) _ = _
  after_results
  rfl

/-- The second kernel's biases. -/
theorem v8 : V2 m ρ c main_v8 = rowOf (m ((c.tc : Thread nD τ).loc main_arg8)) := by
  refine (W2_of m ρ c main_v8 (by decide +kernel)).trans ?_
  show StableHlo.after hostOps0 (W0 m ρ c) _ = _
  after_results
  rfl

/-- The second kernel's scales. -/
theorem v9 : V2 m ρ c main_v9 = rowOf (m ((c.tc : Thread nD τ).loc main_arg9)) := by
  refine (W2_of m ρ c main_v9 (by decide +kernel)).trans ?_
  show StableHlo.after hostOps0 (W0 m ρ c) _ = _
  after_results
  rfl

/-- The second kernel's shifts. -/
theorem v10 : V2 m ρ c main_v10 = rowOf (m ((c.tc : Thread nD τ).loc main_arg10)) := by
  refine (W2_of m ρ c main_v10 (by decide +kernel)).trans ?_
  show StableHlo.after hostOps0 (W0 m ρ c) _ = _
  after_results
  rfl

end Cert.Entry
end
-- ==== Proof.Blocks.lean ====
/-
What the first kernel's result arrays hold once the grid is done, in terms of the arrays it starts from.
-/
module

public import proofs.«01_k».proof.Proof.Slot

@[expose] public section

set_option maxRecDepth 16384

noncomputable section

namespace Cert.Blocks

open Idealize.ShloMosaic Idealize.ShloMosaic.Pipeline Cert.KernelIdeal Cert.KernelIdeal.Gen

/-- Which block each window stages at a grid point. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0] :=
  (by decide +kernel : ∀ t : Fin grid0.N, _)

variable (V : (c : Dev nD) → (b : Ref sig .tc) → Buf (Elt Ideal) ((c.tc : Thread nD τ).loc b)) (c : Dev nD)

/-- The features of batch entry `i`. -/
def feats (X : FVec Ideal S64x300x1024 .f32) (i : Fin 64) (s : Fin 300) (d : Fin 1024) : EReal := X (ix3 i s d)

/-- The rows of slot `i` of a block are the features of the batch entry it stands for. -/
theorem rows_eq (t : Fin cfg0.N) (i : Fin 16) (I : Fin 64) (h : (I : ℕ) = t.val * 16 + i) :
    Slot.rows (iblk0 V c 0 t) i = feats (V c main_arg0) I := by
  funext s d
  unfold Slot.rows feats
  blk_point [iblk0, idx t]

/-- Every point stages the joined weights whole. -/
theorem w_eq (t : Fin cfg0.N) : (iblk0 V c 1 t : Vec Ideal S1024x768 .bf16) = V c main_v3 := by
  funext j
  idx_vars j
  blk_point [iblk0, idx t]

/-- Every point stages the joined biases whole. -/
theorem b_eq (t : Fin cfg0.N) : (iblk0 V c 2 t : Vec Ideal S1x768 .f32) = V c main_v6 := by
  funext j
  idx_vars j
  blk_point [iblk0, idx t]

/-- The scores' array: every batch entry's scores. -/
theorem arr3 : (dat0 V c).arrAt 3 cfg0.N
    = fun j : S64x300x4.Idx => Slot.scores (feats (V c main_arg0) (j 0)) (V c main_v3) (V c main_v6) (j 1) (j 2) := by
  refine (dat0 V c).arrAt_eq_of_covers 3 _ (by decide +kernel) fun t _ y => ?_
  blk_simp
  rw [after0_3]
  refine (Slot.out3 _ _ _ y).trans ?_
  rw [w_eq, b_eq]
  congr 1
  · exact rows_eq V c t _ _ (by blk_simp [idx t])
  all_goals exact Fin.ext (by blk_simp [idx t])

/-- The weights' array: every batch entry's attention weights. -/
theorem arr4 : (dat0 V c).arrAt 4 cfg0.N
    = fun j : S64x300x4.Idx => Slot.weights (feats (V c main_arg0) (j 0)) (V c main_v3) (V c main_v6) (j 1) (j 2) := by
  refine (dat0 V c).arrAt_eq_of_covers 4 _ (by decide +kernel) fun t _ y => ?_
  blk_simp
  rw [after0_4]
  refine (Slot.out4 _ _ _ y).trans ?_
  rw [w_eq, b_eq]
  congr 1
  · exact rows_eq V c t _ _ (by blk_simp [idx t])
  all_goals exact Fin.ext (by blk_simp [idx t])

/-- The pooled values of one head over the whole batch. -/
def pooledOf (h : Fin 4) : FVec Ideal S64x1x128 .f32 :=
  fun j => Slot.pooled (feats (V c main_arg0) (j 0)) (V c main_v3) (V c main_v6) h (j 2)

/-- A block of the pooled values is the pooled values of its batch entries. -/
theorem pooled_blk (t : Fin cfg0.N) (h : Fin 4) (i : Fin 16) (I : Fin 64) (j J : Fin 128) (e : (I : ℕ) = t.val * 16 + i)
    (e' : (J : ℕ) = j) :
    Slot.pooled (Slot.rows (iblk0 V c 0 t) i) (iblk0 V c 1 t) (iblk0 V c 2 t) h j
      = Slot.pooled (feats (V c main_arg0) I) (V c main_v3) (V c main_v6) h J := by
  rw [w_eq, b_eq, rows_eq V c t i I e, Fin.ext e']

/-- The pooled array of head 0. -/
theorem arr5 : (dat0 V c).arrAt 5 cfg0.N = pooledOf V c 0 := by
  refine (dat0 V c).arrAt_eq_of_covers 5 _ (by decide +kernel) fun t _ y => ?_
  blk_simp
  rw [after0_5]
  exact (Slot.out5 _ _ _ y).trans (pooled_blk V c t 0 _ _ _ _ (by blk_simp [idx t]) (by blk_simp [idx t]))

/-- The pooled array of head 1. -/
theorem arr6 : (dat0 V c).arrAt 6 cfg0.N = pooledOf V c 1 := by
  refine (dat0 V c).arrAt_eq_of_covers 6 _ (by decide +kernel) fun t _ y => ?_
  blk_simp
  rw [after0_6]
  exact (Slot.out6 _ _ _ y).trans (pooled_blk V c t 1 _ _ _ _ (by blk_simp [idx t]) (by blk_simp [idx t]))

/-- The pooled array of head 2. -/
theorem arr7 : (dat0 V c).arrAt 7 cfg0.N = pooledOf V c 2 := by
  refine (dat0 V c).arrAt_eq_of_covers 7 _ (by decide +kernel) fun t _ y => ?_
  blk_simp
  rw [after0_7]
  exact (Slot.out7 _ _ _ y).trans (pooled_blk V c t 2 _ _ _ _ (by blk_simp [idx t]) (by blk_simp [idx t]))

/-- The pooled array of head 3. -/
theorem arr8 : (dat0 V c).arrAt 8 cfg0.N = pooledOf V c 3 := by
  refine (dat0 V c).arrAt_eq_of_covers 8 _ (by decide +kernel) fun t _ y => ?_
  blk_simp
  rw [after0_8]
  exact (Slot.out8 _ _ _ y).trans (pooled_blk V c t 3 _ _ _ _ (by blk_simp [idx t]) (by blk_simp [idx t]))

end Cert.Blocks
end
-- ==== Proof.Meet.lean ====
/-
The equation of the two computations: each value the kernels compute is the reference's.
-/
module

public import proofs.«01_k».proof.Proof.RefAt
public import proofs.«01_k».proof.Proof.Pick
public import proofs.«01_k».proof.Proof.Entry
public import proofs.«01_k».proof.Proof.Blocks

@[expose] public section

set_option maxRecDepth 16384

noncomputable section

namespace Cert.Meet

open Idealize.ShloMosaic Cert.ReferenceIdeal Cert.RefTerms Cert.Entry

section
variable (x : FVec Ideal S64x300x1024 .f32) (wq : FVec Ideal S4x128x1024 .f32) (bq : FVec Ideal S4x128 .f32)
  (wk : FVec Ideal S128x1024 .f32) (bk : FVec Ideal S128 .f32) (wv : FVec Ideal S128x1024 .f32) (bv : FVec Ideal S128 .f32)

/-- The kernel's query columns are the reference's queries. -/
theorem query_eq (i : Fin 64) (h : Fin 4) (s : Fin 300) (p : Fin 128) :
    Slot.projs (Blocks.feats x i) (joinedW wq wk wv) (joinedB bq bk bv) s (Slot.colQ h p) = query x wq bq (ix4 i h s p) := by
  rw [RefAt.query_at]
  unfold Slot.projs
  simp only [joinedW_q, joinedB_q]
  rfl

/-- The kernel's key columns are the reference's keys. -/
theorem key_eq (i : Fin 64) (s : Fin 300) (p : Fin 128) :
    Slot.projs (Blocks.feats x i) (joinedW wq wk wv) (joinedB bq bk bv) s (Slot.colK p) = lin x wk bk (ix3 i s p) := by
  rw [RefAt.lin_at]
  unfold Slot.projs
  simp only [joinedW_k, joinedB_k]
  rfl

/-- The kernel's value columns are the reference's values. -/
theorem value_eq (i : Fin 64) (s : Fin 300) (p : Fin 128) :
    Slot.projs (Blocks.feats x i) (joinedW wq wk wv) (joinedB bq bk bv) s (Slot.colV p) = lin x wv bv (ix3 i s p) := by
  rw [RefAt.lin_at]
  unfold Slot.projs
  simp only [joinedW_v, joinedB_v]
  rfl

/-- The kernel's scores are the reference's. -/
theorem scores_eq (i : Fin 64) (s : Fin 300) (h : Fin 4) :
    Slot.scores (Blocks.feats x i) (joinedW wq wk wv) (joinedB bq bk bv) s h
      = score (lin x wk bk) (query x wq bq) (ix3 i h s) := by
  rw [RefAt.score_at]
  unfold Slot.scores
  simp only [query_eq, key_eq]

/-- The kernel's attention weights are the reference's. -/
theorem weights_eq (i : Fin 64) (s : Fin 300) (h : Fin 4) :
    Slot.weights (Blocks.feats x i) (joinedW wq wk wv) (joinedB bq bk bv) s h
      = softmax (score (lin x wk bk) (query x wq bq)) (ix3 i h s) := by
  rw [RefAt.softmax_at]
  unfold Slot.weights
  simp only [scores_eq]

/-- The kernel's pooled values are the reference's. -/
theorem pooled_eq (i : Fin 64) (h : Fin 4) (j : Fin 128) :
    Slot.pooled (Blocks.feats x i) (joinedW wq wk wv) (joinedB bq bk bv) h j
      = attend (softmax (score (lin x wk bk) (query x wq bq))) (lin x wv bv) (ix3 i h j) := by
  rw [RefAt.attend_at]
  unfold Slot.pooled
  simp only [weights_eq, value_eq]
end

section
variable (A : FVec Ideal S64x4x128 .f32) (wc : FVec Ideal S3862x128 .f32) (bc la lb : FVec Ideal S3862 .f32)

/-- The normalised logits of the pooled values `A`, classes before heads. -/
def normsOf : FVec Ideal S64x3862x4 .f32 := normed (centred (logits A wc bc)) la lb

/-- `X` holds head `h`'s pooled values. -/
def Holds (h : Fin 4) (X : Vec Ideal Cert.KernelIdeal.S64x1x128 .f32) : Prop :=
  ∀ (i : Fin 64) (p : Fin 128), X (ix3 i 0 p) = A (ix3 i h p)

/-- The kernel's normalised logits of one head are the reference's. -/
theorem norm_eq (h : Fin 4) (X : Vec Ideal Cert.KernelIdeal.S64x1x128 .f32) (hX : Holds A h X) (i : Fin 64) (k : Fin 3862) :
    Cert.KernelIdeal.Gen.k1_pay7 (F := Ideal) (turned wc) (rowOf bc) (rowOf la) (rowOf lb) X (ix2 i k)
      = normsOf A wc bc la lb (ix3 i k h) := by
  refine (Head.norm_at _ _ _ _ _ i k).trans ?_
  refine Eq.trans ?_ (RefAt.normed_at (logits A wc bc) la lb i k h).symm
  simp only [RefAt.logits_at, turned_at, rowOf_at, hX i]

variable (X0 X1 X2 X3 : Vec Ideal Cert.KernelIdeal.S64x1x128 .f32) (h0 : Holds A 0 X0) (h1 : Holds A 1 X1)
  (h2 : Holds A 2 X2) (h3 : Holds A 3 X3)

include h0 h1 h2 h3

/-- The kernel's largest head is the reference's. -/
theorem best_eq (i : Fin 64) (k : Fin 3862) :
    Head.best X0 X1 X2 X3 (turned wc) (rowOf bc) (rowOf la) (rowOf lb) (ix2 i k)
      = best (normsOf A wc bc la lb) (ix2 i k) := by
  rw [RefAt.best_at, Pick.four]
  unfold Head.best
  simp only [Head.larger_at, norm_eq A wc bc la lb _ _ h0, norm_eq A wc bc la lb _ _ h1, norm_eq A wc bc la lb _ _ h2,
    norm_eq A wc bc la lb _ _ h3]

/-- The kernel's probabilities are the reference's. -/
theorem probs_eq : logistic (Head.best X0 X1 X2 X3 (turned wc) (rowOf bc) (rowOf la) (rowOf lb))
    = sigmoid (best (normsOf A wc bc la lb)) := by
  funext j
  idx_vars j
  refine Eq.trans ?_ (RefAt.sigmoid_at _ _ _).symm
  rw [← best_eq A wc bc la lb X0 X1 X2 X3 h0 h1 h2 h3]
  rfl

/-- The kernel's number of the largest head is the reference's. -/
theorem heads_eq : Head.bestAt X0 X1 X2 X3 (turned wc) (rowOf bc) (rowOf la) (rowOf lb)
    = bestAt (normsOf A wc bc la lb) := by
  funext j
  idx_vars j
  refine Eq.trans ?_ (Pick.bestAt_at _ _ _).symm
  refine Eq.trans ?_ (Pick.four_at _).symm
  unfold Head.bestAt
  simp only [Head.mark_at, Head.larger_at, norm_eq A wc bc la lb _ _ h0, norm_eq A wc bc la lb _ _ h1,
    norm_eq A wc bc la lb _ _ h2, norm_eq A wc bc la lb _ _ h3]
  rfl

omit h0 h1 h2 h3

/-- The kernel's regulariser is the reference's. -/
theorem loss_eq (j : Cert.KernelIdeal.S1x1x1.Idx) : Cert.KernelIdeal.Gen.k1_pay1 (F := Ideal) (turned wc) (rowOf bc) j
    = convLoss (convSpread (convCentred (convSoftmax (conv wc bc)))) ix0 := by
  refine (Head.loss_at _ _ j).trans ?_
  refine (RefAt.convLoss_at _ _ fun i => ?_).symm
  rw [RefAt.convSpread_at]
  simp only [RefAt.convCentred_at, RefAt.convSoftmax_at, RefAt.conv_at, turned_at, rowOf_at]
end

end Cert.Meet
end
-- ==== Proof.Heads.lean ====
/-
What the second kernel's result arrays hold, in terms of the arrays it starts from.
-/
module

public import proofs.«01_k».proof.Proof.Head

@[expose] public section

set_option maxRecDepth 16384

noncomputable section

namespace Cert.Heads

open Idealize.ShloMosaic Idealize.ShloMosaic.Pipeline Cert.KernelIdeal Cert.KernelIdeal.Gen

/-- The second kernel's only point stages every array at its start. -/
theorem idx : ∀ t : Fin cfg1.N, win1_0.index t = ![0, 0, 0] ∧ win1_1.index t = ![0, 0, 0] ∧ win1_2.index t = ![0, 0, 0]
    ∧ win1_3.index t = ![0, 0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0, 0] :=
  (by decide +kernel : ∀ t : Fin grid1.N, _)

variable (V : (c : Dev nD) → (b : Ref sig .tc) → Buf (Elt Ideal) ((c.tc : Thread nD τ).loc b)) (c : Dev nD)

/-- Every input is staged whole. -/
theorem whole (t : Fin cfg1.N) : (iblk1 V c 0 t : Vec Ideal S64x1x128 .f32) = V c main_v11_2
    ∧ (iblk1 V c 1 t : Vec Ideal S64x1x128 .f32) = V c main_v11_3 ∧ (iblk1 V c 2 t : Vec Ideal S64x1x128 .f32) = V c main_v11_4
    ∧ (iblk1 V c 3 t : Vec Ideal S64x1x128 .f32) = V c main_v11_5 ∧ (iblk1 V c 4 t : Vec Ideal S128x3862 .f32) = V c main_v7
    ∧ (iblk1 V c 5 t : Vec Ideal S1x3862 .f32) = V c main_v8 ∧ (iblk1 V c 6 t : Vec Ideal S1x3862 .f32) = V c main_v9
    ∧ (iblk1 V c 7 t : Vec Ideal S1x3862 .f32) = V c main_v10 := by
  refine ⟨?_, ?_, ?_, ?_, ?_, ?_, ?_, ?_⟩
  all_goals
    funext j
    idx_vars j
    blk_point [iblk1, idx t]

/-- The probabilities' array. -/
theorem arr8 : (dat1 V c).arrAt 8 cfg1.N = logistic (Head.best (V c main_v11_2) (V c main_v11_3) (V c main_v11_4)
    (V c main_v11_5) (V c main_v7) (V c main_v8) (V c main_v9) (V c main_v10)) := by
  refine (dat1 V c).arrAt_eq_of_after_last 8 t1_0 (by decide +kernel) _ fun j => ?_
  blk_simp
  obtain ⟨h0, h1, h2, h3, h4, h5, h6, h7⟩ := whole V c t1_0
  rw [after1_8, Head.out8, h0, h1, h2, h3, h4, h5, h6, h7]
  blk_ext [idx t1_0]

/-- The heads' array. -/
theorem arr9 : (dat1 V c).arrAt 9 cfg1.N = Head.bestAt (V c main_v11_2) (V c main_v11_3) (V c main_v11_4)
    (V c main_v11_5) (V c main_v7) (V c main_v8) (V c main_v9) (V c main_v10) := by
  refine (dat1 V c).arrAt_eq_of_after_last 9 t1_0 (by decide +kernel) _ fun j => ?_
  blk_simp
  obtain ⟨h0, h1, h2, h3, h4, h5, h6, h7⟩ := whole V c t1_0
  rw [after1_9, Head.out9, h0, h1, h2, h3, h4, h5, h6, h7]
  blk_ext [idx t1_0]

/-- The regulariser's array. -/
theorem arr10 : (dat1 V c).arrAt 10 cfg1.N = k1_pay1 (F := Ideal) (V c main_v7) (V c main_v8) := by
  refine (dat1 V c).arrAt_eq_of_after_last 10 t1_0 (by decide +kernel) _ fun j => ?_
  blk_simp
  obtain ⟨h0, h1, h2, h3, h4, h5, h6, h7⟩ := whole V c t1_0
  rw [after1_10, Head.out10, Head.pay2_eq, Head.pay4_eq, h4, h5]
  blk_ext [idx t1_0]

end Cert.Heads
end
-- ==== Proof.Results.lean ====
/-
The five results of the kernel program after its run, in terms of the arguments, as the reference's stages.
-/
module

public import proofs.«01_k».proof.Proof.Meet
public import proofs.«01_k».proof.Proof.Heads

@[expose] public section

set_option maxRecDepth 16384

noncomputable section

namespace Cert.Results

open Idealize.ShloMosaic Cert.KernelIdeal Cert.KernelIdeal.Gen

variable (m : (ℓ : Loc nD τ sig) → Buf (Elt Ideal) ℓ) (ρ : Dev nD → PrngReg) (c : Dev nD)

/-- An argument's contents at launch. -/
abbrev arg (b : Ref sig .tc) : Buf (Elt Ideal) ((c.tc : Thread nD τ).loc b) := m ((c.tc : Thread nD τ).loc b)

/-- The first kernel finds the features as launched. -/
theorem v0 : V1 m ρ c main_arg0 = arg m c main_arg0 := W1_args m ρ c main_arg0 (by decide)

/-- The reference's scores on the arguments. -/
def scoresRef : FVec Ideal Cert.ReferenceIdeal.S64x4x300 .f32 :=
  RefTerms.score (RefTerms.lin (arg m c main_arg0) (arg m c main_arg3) (arg m c main_arg4))
    (RefTerms.query (arg m c main_arg0) (arg m c main_arg1) (arg m c main_arg2))

/-- The reference's pooled values on the arguments. -/
def pooledRef : FVec Ideal Cert.ReferenceIdeal.S64x4x128 .f32 :=
  RefTerms.attend (RefTerms.softmax (scoresRef m c)) (RefTerms.lin (arg m c main_arg0) (arg m c main_arg5) (arg m c main_arg6))

/-- The reference's normalised logits on the arguments. -/
def normsRef : FVec Ideal Cert.ReferenceIdeal.S64x3862x4 .f32 :=
  Meet.normsOf (pooledRef m c) (arg m c main_arg7) (arg m c main_arg8) (arg m c main_arg9) (arg m c main_arg10)

/-- Result 3: the scores. -/
theorem scores : W4 m ρ c (Proc.devRef .tc main_v11_0) = RefTerms.headsLast (scoresRef m c) := by
  refine (W4_of m ρ c main_v11_0 (by decide)).trans ((W3_of m ρ c main_v11_0 (by decide +kernel)).trans
    ((W2_arr m ρ c 3).trans ((Blocks.arr3 (V1 m ρ) c).trans ?_)))
  rw [v0, Entry.v3, Entry.v6]
  funext j
  idx_vars j
  exact (Meet.scores_eq _ _ _ _ _ _ _ _ _ _).trans (RefAt.headsLast_at _ _ _ _).symm

/-- Result 4: the attention weights. -/
theorem weights : W4 m ρ c (Proc.devRef .tc main_v11_1) = RefTerms.headsLast (RefTerms.softmax (scoresRef m c)) := by
  refine (W4_of m ρ c main_v11_1 (by decide)).trans ((W3_of m ρ c main_v11_1 (by decide +kernel)).trans
    ((W2_arr m ρ c 4).trans ((Blocks.arr4 (V1 m ρ) c).trans ?_)))
  rw [v0, Entry.v3, Entry.v6]
  funext j
  idx_vars j
  exact (Meet.weights_eq _ _ _ _ _ _ _ _ _ _).trans (RefAt.headsLast_at _ _ _ _).symm

/-- The first kernel's pooled array of a head holds the reference's pooled values. -/
theorem holds (h : Fin 4) : Meet.Holds (pooledRef m c) h (Blocks.pooledOf (V1 m ρ) c h) := fun i p => by
  unfold Blocks.pooledOf
  rw [v0, Entry.v3, Entry.v6]
  exact Meet.pooled_eq _ _ _ _ _ _ _ i h p

/-- What the second kernel finds in its four pooled operands. -/
theorem operands : V2 m ρ c main_v11_2 = Blocks.pooledOf (V1 m ρ) c 0 ∧ V2 m ρ c main_v11_3 = Blocks.pooledOf (V1 m ρ) c 1
    ∧ V2 m ρ c main_v11_4 = Blocks.pooledOf (V1 m ρ) c 2 ∧ V2 m ρ c main_v11_5 = Blocks.pooledOf (V1 m ρ) c 3 :=
  ⟨(W2_arr m ρ c 5).trans (Blocks.arr5 (V1 m ρ) c), (W2_arr m ρ c 6).trans (Blocks.arr6 (V1 m ρ) c),
    (W2_arr m ρ c 7).trans (Blocks.arr7 (V1 m ρ) c), (W2_arr m ρ c 8).trans (Blocks.arr8 (V1 m ρ) c)⟩

/-- Result 1: the probabilities. -/
theorem probs : W4 m ρ c (Proc.devRef .tc main_v12_0) = RefTerms.sigmoid (RefTerms.best (normsRef m c)) := by
  refine (W4_of m ρ c main_v12_0 (by decide)).trans ((W3_arr m ρ c 8).trans ((Heads.arr8 (V2 m ρ) c).trans ?_))
  obtain ⟨h0, h1, h2, h3⟩ := operands m ρ c
  rw [h0, h1, h2, h3, Entry.v7, Entry.v8, Entry.v9, Entry.v10]
  exact Meet.probs_eq _ _ _ _ _ _ _ _ _ (holds m ρ c 0) (holds m ρ c 1) (holds m ρ c 2) (holds m ρ c 3)

/-- Result 2: which head is the largest. -/
theorem heads : W4 m ρ c (Proc.devRef .tc main_v12_1) = RefTerms.bestAt (normsRef m c) := by
  refine (W4_of m ρ c main_v12_1 (by decide)).trans ((W3_arr m ρ c 9).trans ((Heads.arr9 (V2 m ρ) c).trans ?_))
  obtain ⟨h0, h1, h2, h3⟩ := operands m ρ c
  rw [h0, h1, h2, h3, Entry.v7, Entry.v8, Entry.v9, Entry.v10]
  exact Meet.heads_eq _ _ _ _ _ _ _ _ _ (holds m ρ c 0) (holds m ρ c 1) (holds m ρ c 2) (holds m ρ c 3)

/-- The regulariser's one cell as a number of no axes. -/
def flat (x : FVec Ideal S1x1x1 .f32) : FVec Ideal S_ .f32 := shapeCast S_ x shapeCasts_S1x1x1_S_

/-- The reshape keeps the cell's value. -/
theorem flat_at (x : FVec Ideal S1x1x1 .f32) : flat x ix0 = x (ix3 0 0 0) := by
  pointwise [flat]

/-- Result 5: the regulariser. -/
theorem loss : W4 m ρ c (Proc.devRef .tc main_v13) = RefTerms.convLoss (RefTerms.convSpread (RefTerms.convCentred
    (RefTerms.convSoftmax (RefTerms.conv (arg m c main_arg7) (arg m c main_arg8))))) := by
  have e : W4 m ρ c (Proc.devRef .tc main_v13) = flat (W3 m ρ c (Proc.devRef .tc main_v12_2)) := by
    show StableHlo.after hostOps2 (W3 m ρ c) _ = _
    after_results
    rfl
  refine e.trans ?_
  have e' : W3 m ρ c (Proc.devRef .tc main_v12_2) = k1_pay1 (F := Ideal) (V2 m ρ c main_v7) (V2 m ρ c main_v8) :=
    (W3_arr m ρ c 10).trans (Heads.arr10 (V2 m ρ) c)
  rw [e', Entry.v7, Entry.v8]
  funext j
  obtain rfl : j = ix0 := funext fun a => a.elim0
  exact (flat_at _).trans (Meet.loss_eq _ _ _)

end Cert.Results
end
-- ==== Proof.Agree.lean ====
/-
The reference's five results on launch contents that agree with the kernel's arguments.
-/
module

public import proofs.«01_k».proof.Proof.Results
public import proofs.«01_k».proof.Proof.RefRun

@[expose] public section

set_option maxRecDepth 16384

noncomputable section

namespace Cert.Agree

open Idealize.ShloMosaic Cert.KernelIdeal Cert.Results

variable (m : (ℓ : Loc nD τ sig) → Buf (Elt Ideal) ℓ) (c : Dev nD)
  (V : Valuation Cert.ReferenceIdeal.τ Cert.ReferenceIdeal.sig (Elt Ideal))

/-- `V` holds the kernel's arguments where the reference expects its own. -/
structure Same : Prop where
  a0 : V (Proc.devRef .tc Cert.ReferenceIdeal.main_arg0) = arg m c main_arg0
  a1 : V (Proc.devRef .tc Cert.ReferenceIdeal.main_arg1) = arg m c main_arg1
  a2 : V (Proc.devRef .tc Cert.ReferenceIdeal.main_arg2) = arg m c main_arg2
  a3 : V (Proc.devRef .tc Cert.ReferenceIdeal.main_arg3) = arg m c main_arg3
  a4 : V (Proc.devRef .tc Cert.ReferenceIdeal.main_arg4) = arg m c main_arg4
  a5 : V (Proc.devRef .tc Cert.ReferenceIdeal.main_arg5) = arg m c main_arg5
  a6 : V (Proc.devRef .tc Cert.ReferenceIdeal.main_arg6) = arg m c main_arg6
  a7 : V (Proc.devRef .tc Cert.ReferenceIdeal.main_arg7) = arg m c main_arg7
  a8 : V (Proc.devRef .tc Cert.ReferenceIdeal.main_arg8) = arg m c main_arg8
  a9 : V (Proc.devRef .tc Cert.ReferenceIdeal.main_arg9) = arg m c main_arg9
  a10 : V (Proc.devRef .tc Cert.ReferenceIdeal.main_arg10) = arg m c main_arg10

variable {m c V} (s : Same m c V)
include s

/-- The reference's scores. -/
theorem scores : RefRun.out V (Proc.devRef .tc Cert.ReferenceIdeal.main_v68) = RefTerms.headsLast (scoresRef m c) := by
  rw [RefRun.out_scores, s.a0, s.a1, s.a2, s.a3, s.a4]
  rfl

/-- The reference's attention weights, heads before the sequence. -/
theorem weights_eq : RefRun.weights V = RefTerms.softmax (scoresRef m c) := by
  unfold RefRun.weights
  rw [s.a0, s.a1, s.a2, s.a3, s.a4]
  rfl

/-- The reference's attention weights. -/
theorem weights : RefRun.out V (Proc.devRef .tc Cert.ReferenceIdeal.main_v69)
    = RefTerms.headsLast (RefTerms.softmax (scoresRef m c)) := by
  rw [RefRun.out_weights, weights_eq s]

/-- The reference's normalised logits. -/
theorem norms_eq : RefRun.norms V = normsRef m c := by
  unfold RefRun.norms
  rw [weights_eq s, s.a0, s.a5, s.a6, s.a7, s.a8, s.a9, s.a10]
  rfl

/-- The reference's probabilities. -/
theorem probs : RefRun.out V (Proc.devRef .tc Cert.ReferenceIdeal.main_v67) = RefTerms.sigmoid (RefTerms.best (normsRef m c)) := by
  rw [RefRun.out_probs, norms_eq s]

/-- The reference's numbers of the largest heads. -/
theorem heads : RefRun.out V (Proc.devRef .tc Cert.ReferenceIdeal.main_v61) = RefTerms.bestAt (normsRef m c) := by
  rw [RefRun.out_heads, norms_eq s]

/-- The reference's regulariser. -/
theorem loss : RefRun.out V (Proc.devRef .tc Cert.ReferenceIdeal.main_v98) = RefTerms.convLoss (RefTerms.convSpread
    (RefTerms.convCentred (RefTerms.convSoftmax (RefTerms.conv (arg m c main_arg7) (arg m c main_arg8))))) := by
  rw [RefRun.out_loss, s.a7, s.a8]

end Cert.Agree
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, ?_, trivial, ?_⟩
  · exact Cert.RefRun.quiet
  · intro m g m' g' _ hagree
    refine ⟨fun c => RefTerms.sigmoid (RefTerms.best (Results.normsRef m c)), fun c => RefTerms.bestAt (Results.normsRef m c),
      fun c => RefTerms.headsLast (Results.scoresRef m c),
      fun c => RefTerms.headsLast (RefTerms.softmax (Results.scoresRef m c)),
      fun c => RefTerms.convLoss (RefTerms.convSpread (RefTerms.convCentred (RefTerms.convSoftmax (RefTerms.conv
        (Results.arg m c Cert.KernelIdeal.main_arg7) (Results.arg m c Cert.KernelIdeal.main_arg8))))), ?_, ?_⟩
    · refine θ_run_mono (Cert.KernelIdeal.Whole.run m g) fun r h c => ?_
      obtain ⟨h1, h2, h3, h4, h5, h⟩ := h c
      exact ⟨h1.trans (Results.probs m g c), h2.trans (Results.heads m g c), h3.trans (Results.scores m g c),
        h4.trans (Results.weights m g c), h5.trans (Results.loss m g c), h⟩
    · refine θ_run_mono (Cert.RefRun.runs m' g') fun r h c => ?_
      obtain ⟨a0, a1, a2, a3, a4, a5, a6, a7, a8, a9, a10⟩ := hagree c
      have s : Agree.Same m c (StableHlo.launchContents m' c) := ⟨a0, a1, a2, a3, a4, a5, a6, a7, a8, a9, a10⟩
      refine ⟨(h c _).trans (Agree.probs s), (h c _).trans (Agree.heads s), (h c _).trans (Agree.scores s),
        (h c _).trans (Agree.weights s), (h c _).trans (Agree.loss s), ?_⟩
      and_intros
      all_goals exact (h c _).trans (Cert.RefRun.out_args _ _ (by simp))⟩

end Cert.Proof

end
